-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  IdealRules.named_const.Statement Cert.KernelIdeal.κ "inv_bn" .f32 0x3F7FFFAC#32 (((Real.sqrt (2097173 / 2097152))⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v143) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S10000x256 : Shape := ⟨2, ![10000, 256]⟩
abbrev S400x10000 : Shape := ⟨2, ![400, 10000]⟩
abbrev S400x128 : Shape := ⟨2, ![400, 128]⟩
abbrev S400x256 : Shape := ⟨2, ![400, 256]⟩
abbrev S400 : Shape := ⟨1, ![400]⟩
abbrev S400x1 : Shape := ⟨2, ![400, 1]⟩
abbrev S3x128 : Shape := ⟨2, ![3, 128]⟩
abbrev S3x1x128 : Shape := ⟨3, ![3, 1, 128]⟩
abbrev S1x128x128 : Shape := ⟨3, ![1, 128, 128]⟩
abbrev S2x128x128 : Shape := ⟨3, ![2, 128, 128]⟩
abbrev S1000x10000 : Shape := ⟨2, ![1000, 10000]⟩
abbrev S1000x128 : Shape := ⟨2, ![1000, 128]⟩
abbrev S1x1x128 : Shape := ⟨3, ![1, 1, 128]⟩
abbrev S1000x256 : Shape := ⟨2, ![1000, 256]⟩
abbrev S1000 : Shape := ⟨1, ![1000]⟩
abbrev S1000x1 : Shape := ⟨2, ![1000, 1]⟩

abbrev nBuf : Space → Nat
  | .hbm => 43
  | .vmem => 35
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S1x128, .f32⟩
  | .hbm, ⟨19, _⟩ => ⟨S1x128, .f32⟩
  | .hbm, ⟨20, _⟩ => ⟨S1x128, .f32⟩
  | .hbm, ⟨21, _⟩ => ⟨S10000x10000, .fp8e4m3⟩
  | .hbm, ⟨22, _⟩ => ⟨S10000x128, .f32⟩
  | .hbm, ⟨23, _⟩ => ⟨S10000x256, .fp8e4m3⟩
  | .hbm, ⟨24, _⟩ => ⟨S1x128, .f32⟩
  | .hbm, ⟨25, _⟩ => ⟨S1x128, .f32⟩
  | .hbm, ⟨26, _⟩ => ⟨S1x128, .f32⟩
  | .hbm, ⟨27, _⟩ => ⟨S3x128, .f32⟩
  | .hbm, ⟨28, _⟩ => ⟨S3x1x128, .f32⟩
  | .hbm, ⟨29, _⟩ => ⟨S1x128, .f32⟩
  | .hbm, ⟨30, _⟩ => ⟨S1x128, .f32⟩
  | .hbm, ⟨31, _⟩ => ⟨S1x128, .f32⟩
  | .hbm, ⟨32, _⟩ => ⟨S3x128, .f32⟩
  | .hbm, ⟨33, _⟩ => ⟨S3x1x128, .f32⟩
  | .hbm, ⟨34, _⟩ => ⟨S1x128, .f32⟩
  | .hbm, ⟨35, _⟩ => ⟨S1x128, .f32⟩
  | .hbm, ⟨36, _⟩ => ⟨S1x128, .f32⟩
  | .hbm, ⟨37, _⟩ => ⟨S3x128, .f32⟩
  | .hbm, ⟨38, _⟩ => ⟨S3x1x128, .f32⟩
  | .hbm, ⟨39, _⟩ => ⟨S1x128x128, .f32⟩
  | .hbm, ⟨40, _⟩ => ⟨S1x128x128, .f32⟩
  | .hbm, ⟨41, _⟩ => ⟨S2x128x128, .f32⟩
  | .hbm, ⟨42, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S128x128, .f32⟩
  | .local _ .vmem, ⟨8, _⟩ => ⟨S400x10000, .fp8e4m3⟩
  | .local _ .vmem, ⟨9, _⟩ => ⟨S400x10000, .fp8e4m3⟩
  | .local _ .vmem, ⟨10, _⟩ => ⟨S400x128, .f32⟩
  | .local _ .vmem, ⟨11, _⟩ => ⟨S400x128, .f32⟩
  | .local _ .vmem, ⟨12, _⟩ => ⟨S400x256, .fp8e4m3⟩
  | .local _ .vmem, ⟨13, _⟩ => ⟨S400x256, .fp8e4m3⟩
  | .local _ .vmem, ⟨14, _⟩ => ⟨S10000x128, .bf16⟩
  | .local _ .vmem, ⟨15, _⟩ => ⟨S1000x10000, .fp8e4m3⟩
  | .local _ .vmem, ⟨16, _⟩ => ⟨S1000x10000, .fp8e4m3⟩
  | .local _ .vmem, ⟨17, _⟩ => ⟨S10000x256, .fp8e4m3⟩
  | .local _ .vmem, ⟨18, _⟩ => ⟨S1000x128, .f32⟩
  | .local _ .vmem, ⟨19, _⟩ => ⟨S1000x128, .f32⟩
  | .local _ .vmem, ⟨20, _⟩ => ⟨S1000x128, .f32⟩
  | .local _ .vmem, ⟨21, _⟩ => ⟨S1000x128, .f32⟩
  | .local _ .vmem, ⟨22, _⟩ => ⟨S1x1x128, .f32⟩
  | .local _ .vmem, ⟨23, _⟩ => ⟨S1x1x128, .f32⟩
  | .local _ .vmem, ⟨24, _⟩ => ⟨S1x1x128, .f32⟩
  | .local _ .vmem, ⟨25, _⟩ => ⟨S1x1x128, .f32⟩
  | .local _ .vmem, ⟨26, _⟩ => ⟨S1x1x128, .f32⟩
  | .local _ .vmem, ⟨27, _⟩ => ⟨S1x1x128, .f32⟩
  | .local _ .vmem, ⟨28, _⟩ => ⟨S1x128x128, .f32⟩
  | .local _ .vmem, ⟨29, _⟩ => ⟨S1x128x128, .f32⟩
  | .local _ .vmem, ⟨30, _⟩ => ⟨S1000x128, .f32⟩
  | .local _ .vmem, ⟨31, _⟩ => ⟨S1000x128, .f32⟩
  | .local _ .vmem, ⟨32, _⟩ => ⟨S10000x256, .fp8e4m3⟩
  | .local _ .vmem, ⟨33, _⟩ => ⟨S10000x256, .fp8e4m3⟩
  | .local _ .vmem, ⟨34, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3_0 : Ref sig .tc := ⟨.hbm, 21, rfl⟩
abbrev main_v3_1 : Ref sig .tc := ⟨.hbm, 22, rfl⟩
abbrev main_v3_2 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc1_stg7_0 : Ref sig .tc := ⟨.vmem, 28, rfl⟩
abbrev cc1_stg7_1 : Ref sig .tc := ⟨.vmem, 29, rfl⟩
abbrev cc1_stg8_0 : Ref sig .tc := ⟨.vmem, 30, rfl⟩
abbrev cc1_stg8_1 : Ref sig .tc := ⟨.vmem, 31, rfl⟩
abbrev cc1_scratch0 : Ref sig .tc := ⟨.vmem, 32, rfl⟩
abbrev cc1_scratch1 : Ref sig .tc := ⟨.vmem, 33, rfl⟩
abbrev cc1_scratch2 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem2_1 : DmaSem sig := 18
abbrev cc1_sem3_0 : DmaSem sig := 19
abbrev cc1_sem3_1 : DmaSem sig := 20
abbrev cc1_sem4_0 : DmaSem sig := 21
abbrev cc1_sem4_1 : DmaSem sig := 22
abbrev cc1_sem5_0 : DmaSem sig := 23
abbrev cc1_sem5_1 : DmaSem sig := 24
abbrev cc1_sem6_0 : DmaSem sig := 25
abbrev cc1_sem6_1 : DmaSem sig := 26
abbrev cc1_sem7_0 : DmaSem sig := 27
abbrev cc1_sem7_1 : DmaSem sig := 28
abbrev cc1_sem8_0 : DmaSem sig := 29
abbrev cc1_sem8_1 : DmaSem sig := 30

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S400x10000 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S400x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S400x256 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨2, ![3, 10], ![false, false]⟩

def k1_cond1 (i : grid1.Coords) : BitVec 1 :=
  let arg0 : BitVec 32 := BitVec.ofNat 32 (i 0).val
  let c0_i32 : BitVec 32 := 0#32
  let v7 : BitVec 1 := Scalar.cmpi .eq arg0 c0_i32
  let v8 : BitVec 32 := Scalar.extui v7
  let c0_i32_8 : BitVec 32 := 0#32
  let v9 : BitVec 1 := Scalar.cmpi .ne v8 c0_i32_8
  v9

def k1_off1 (i : grid1.Coords) : Fin 2 → Nat :=
  let arg1 : BitVec 32 := BitVec.ofNat 32 (i 1).val
  let c1000_i32 : BitVec 32 := 1000#32
  let v0 : BitVec 32 := Scalar.muli arg1 c1000_i32
  let v57 : Index := Scalar.indexCast v0
  let c0_25 : Index := 0#32
  ![v57.toNat, 0]
def k1_off2 (i : grid1.Coords) : Fin 2 → Nat :=
  let arg1 : BitVec 32 := BitVec.ofNat 32 (i 1).val
  let c1000_i32 : BitVec 32 := 1000#32
  let v0 : BitVec 32 := Scalar.muli arg1 c1000_i32
  let v71 : Index := Scalar.indexCast v0
  let c0_30 : Index := 0#32
  ![v71.toNat, 0]
def k1_cond2 (i : grid1.Coords) : BitVec 1 :=
  let arg0 : BitVec 32 := BitVec.ofNat 32 (i 0).val
  let c1_i32 : BitVec 32 := 1#32
  let v10 : BitVec 1 := Scalar.cmpi .eq arg0 c1_i32
  let v11 : BitVec 32 := Scalar.extui v10
  let c0_i32_9 : BitVec 32 := 0#32
  let v12 : BitVec 1 := Scalar.cmpi .ne v11 c0_i32_9
  v12

def k1_off3 (i : grid1.Coords) : Fin 2 → Nat :=
  let arg1 : BitVec 32 := BitVec.ofNat 32 (i 1).val
  let c1000_i32 : BitVec 32 := 1000#32
  let v0 : BitVec 32 := Scalar.muli arg1 c1000_i32
  let v23 : Index := Scalar.indexCast v0
  let c0_15 : Index := 0#32
  ![v23.toNat, 0]
def k1_off4 (i : grid1.Coords) : Fin 2 → Nat :=
  let arg1 : BitVec 32 := BitVec.ofNat 32 (i 1).val
  let c1000_i32 : BitVec 32 := 1000#32
  let v0 : BitVec 32 := Scalar.muli arg1 c1000_i32
  let v66 : Index := Scalar.indexCast v0
  let c0_28 : Index := 0#32
  ![v66.toNat, 0]
def k1_cond3 (i : grid1.Coords) : BitVec 1 :=
  let arg0 : BitVec 32 := BitVec.ofNat 32 (i 0).val
  let c2_i32 : BitVec 32 := 2#32
  let v13 : BitVec 1 := Scalar.cmpi .eq arg0 c2_i32
  let v14 : BitVec 32 := Scalar.extui v13
  let c0_i32_10 : BitVec 32 := 0#32
  let v15 : BitVec 1 := Scalar.cmpi .ne v14 c0_i32_10
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc1_transform_3 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let c1_i32 : BitVec 32 := 1#32
  let v1 : BitVec 32 := Scalar.select v0 c0_i32_0 c1_i32
  let c0_i32_1 : BitVec 32 := 0#32
  let c0_i32_2 : BitVec 32 := 0#32
  let c0_i32_3 : BitVec 32 := 0#32
  ![v1.toNat, c0_i32_1.toNat, c0_i32_2.toNat]

def cc1_transform_8 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

abbrev stage1_0 : Fin 2 → Memref sig .tc .vmem S1000x10000 .fp8e4m3 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S10000x256 .fp8e4m3 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x1x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x1x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1x1x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S1x128x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S1000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]
-- ==== KernelIdeal.lean ====
variable {F : FTy → Type} [FloatOps F] [Named F]
def κ : String → Option EReal := fun
  | "inv_bn" => some (((Real.sqrt (2097173 / 2097152))⁻¹ : ℝ) : EReal)
  | _ => none
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩
abbrev S10000 : Shape := ⟨1, ![10000]⟩
abbrev S10000x1 : Shape := ⟨2, ![10000, 1]⟩

abbrev nBuf : Space → Nat
  | .hbm => 195
  | .vmem => 0
  | .smem => 0
  | _ => 0

abbrev hbmTy0_0 (i : Nat) : BufTy := match i % 128 with
  | 0 => ⟨S10000x128, .f32⟩
  | 1 => ⟨S10000x10000, .f32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128, .f32⟩
  | 11 => ⟨S128, .f32⟩
  | 12 => ⟨S128, .f32⟩
  | 13 => ⟨S128, .f32⟩
  | 14 => ⟨S128, .f32⟩
  | 15 => ⟨S128, .f32⟩
  | 16 => ⟨S128, .f32⟩
  | 17 => ⟨S128, .f32⟩
  | 18 => ⟨S10000x128, .f32⟩
  | 19 => ⟨S10000x128, .f32⟩
  | 20 => ⟨S1x128, .f32⟩
  | 21 => ⟨S10000x128, .f32⟩
  | 22 => ⟨S10000x128, .f32⟩
  | 23 => ⟨S_, .f32⟩
  | 24 => ⟨S_, .f32⟩
  | 25 => ⟨S_, .f32⟩
  | 26 => ⟨S10000x128, .f32⟩
  | 27 => ⟨S10000x128, .f32⟩
  | 28 => ⟨S_, .f32⟩
  | 29 => ⟨S10000, .f32⟩
  | 30 => ⟨S10000x1, .f32⟩
  | 31 => ⟨S_, .f32⟩
  | 32 => ⟨S10000x1, .f32⟩
  | 33 => ⟨S10000x1, .f32⟩
  | 34 => ⟨S10000x128, .f32⟩
  | 35 => ⟨S10000x128, .f32⟩
  | 36 => ⟨S10000x128, .f32⟩
  | 37 => ⟨S_, .f32⟩
  | 38 => ⟨S10000, .f32⟩
  | 39 => ⟨S10000x1, .f32⟩
  | 40 => ⟨S_, .f32⟩
  | 41 => ⟨S10000x1, .f32⟩
  | 42 => ⟨S10000x1, .f32⟩
  | 43 => ⟨S10000x128, .f32⟩
  | 44 => ⟨S10000x128, .f32⟩
  | 45 => ⟨S_, .f32⟩
  | 46 => ⟨S10000x1, .f32⟩
  | 47 => ⟨S10000x1, .f32⟩
  | 48 => ⟨S10000x1, .f32⟩
  | 49 => ⟨S10000x128, .f32⟩
  | 50 => ⟨S10000x128, .f32⟩
  | 51 => ⟨S1x128, .f32⟩
  | 52 => ⟨S10000x128, .f32⟩
  | 53 => ⟨S10000x128, .f32⟩
  | 54 => ⟨S1x128, .f32⟩
  | 55 => ⟨S10000x128, .f32⟩
  | 56 => ⟨S10000x128, .f32⟩
  | 57 => ⟨S_, .f32⟩
  | 58 => ⟨S10000x128, .f32⟩
  | 59 => ⟨S10000x128, .f32⟩
  | 60 => ⟨S10000x128, .f32⟩
  | 61 => ⟨S10000x128, .f32⟩
  | 62 => ⟨S1x128, .f32⟩
  | 63 => ⟨S10000x128, .f32⟩
  | 64 => ⟨S10000x128, .f32⟩
  | 65 => ⟨S_, .f32⟩
  | 66 => ⟨S_, .f32⟩
  | 67 => ⟨S_, .f32⟩
  | 68 => ⟨S10000x128, .f32⟩
  | 69 => ⟨S10000x128, .f32⟩
  | 70 => ⟨S_, .f32⟩
  | 71 => ⟨S10000, .f32⟩
  | 72 => ⟨S10000x1, .f32⟩
  | 73 => ⟨S_, .f32⟩
  | 74 => ⟨S10000x1, .f32⟩
  | 75 => ⟨S10000x1, .f32⟩
  | 76 => ⟨S10000x128, .f32⟩
  | 77 => ⟨S10000x128, .f32⟩
  | 78 => ⟨S10000x128, .f32⟩
  | 79 => ⟨S_, .f32⟩
  | 80 => ⟨S10000, .f32⟩
  | 81 => ⟨S10000x1, .f32⟩
  | 82 => ⟨S_, .f32⟩
  | 83 => ⟨S10000x1, .f32⟩
  | 84 => ⟨S10000x1, .f32⟩
  | 85 => ⟨S10000x128, .f32⟩
  | 86 => ⟨S10000x128, .f32⟩
  | 87 => ⟨S_, .f32⟩
  | 88 => ⟨S10000x1, .f32⟩
  | 89 => ⟨S10000x1, .f32⟩
  | 90 => ⟨S10000x1, .f32⟩
  | 91 => ⟨S10000x128, .f32⟩
  | 92 => ⟨S10000x128, .f32⟩
  | 93 => ⟨S1x128, .f32⟩
  | 94 => ⟨S10000x128, .f32⟩
  | 95 => ⟨S10000x128, .f32⟩
  | 96 => ⟨S1x128, .f32⟩
  | 97 => ⟨S10000x128, .f32⟩
  | 98 => ⟨S10000x128, .f32⟩
  | 99 => ⟨S_, .f32⟩
  | 100 => ⟨S10000x128, .f32⟩
  | 101 => ⟨S10000x128, .f32⟩
  | 102 => ⟨S_, .f32⟩
  | 103 => ⟨S10000x128, .f32⟩
  | 104 => ⟨S10000x128, .f32⟩
  | 105 => ⟨S10000x128, .f32⟩
  | 106 => ⟨S10000x128, .f32⟩
  | 107 => ⟨S10000x128, .f32⟩
  | 108 => ⟨S1x128, .f32⟩
  | 109 => ⟨S10000x128, .f32⟩
  | 110 => ⟨S10000x128, .f32⟩
  | 111 => ⟨S_, .f32⟩
  | 112 => ⟨S_, .f32⟩
  | 113 => ⟨S_, .f32⟩
  | 114 => ⟨S10000x128, .f32⟩
  | 115 => ⟨S10000x128, .f32⟩
  | 116 => ⟨S_, .f32⟩
  | 117 => ⟨S10000, .f32⟩
  | 118 => ⟨S10000x1, .f32⟩
  | 119 => ⟨S_, .f32⟩
  | 120 => ⟨S10000x1, .f32⟩
  | 121 => ⟨S10000x1, .f32⟩
  | 122 => ⟨S10000x128, .f32⟩
  | 123 => ⟨S10000x128, .f32⟩
  | 124 => ⟨S10000x128, .f32⟩
  | 125 => ⟨S_, .f32⟩
  | 126 => ⟨S10000, .f32⟩
  | 127 => ⟨S10000x1, .f32⟩
  | _ => ⟨S10000x128, .f32⟩

abbrev hbmTy0_1 (i : Nat) : BufTy := match i % 128 with
  | 0 => ⟨S_, .f32⟩
  | 1 => ⟨S10000x1, .f32⟩
  | 2 => ⟨S10000x1, .f32⟩
  | 3 => ⟨S10000x128, .f32⟩
  | 4 => ⟨S10000x128, .f32⟩
  | 5 => ⟨S_, .f32⟩
  | 6 => ⟨S10000x1, .f32⟩
  | 7 => ⟨S10000x1, .f32⟩
  | 8 => ⟨S10000x1, .f32⟩
  | 9 => ⟨S10000x128, .f32⟩
  | 10 => ⟨S10000x128, .f32⟩
  | 11 => ⟨S1x128, .f32⟩
  | 12 => ⟨S10000x128, .f32⟩
  | 13 => ⟨S10000x128, .f32⟩
  | 14 => ⟨S1x128, .f32⟩
  | 15 => ⟨S10000x128, .f32⟩
  | 16 => ⟨S10000x128, .f32⟩
  | 17 => ⟨S_, .f32⟩
  | 18 => ⟨S10000x128, .f32⟩
  | 19 => ⟨S10000x128, .f32⟩
  | 20 => ⟨S_, .f32⟩
  | 21 => ⟨S10000x128, .f32⟩
  | 22 => ⟨S10000x128, .f32⟩
  | 23 => ⟨S10000x128, .f32⟩
  | 24 => ⟨S10000x128, .f32⟩
  | 25 => ⟨S10000x128, .f32⟩
  | 26 => ⟨S1x128, .f32⟩
  | 27 => ⟨S10000x128, .f32⟩
  | 28 => ⟨S10000x128, .f32⟩
  | 29 => ⟨S_, .f32⟩
  | 30 => ⟨S_, .f32⟩
  | 31 => ⟨S_, .f32⟩
  | 32 => ⟨S10000x128, .f32⟩
  | 33 => ⟨S10000x128, .f32⟩
  | 34 => ⟨S_, .f32⟩
  | 35 => ⟨S10000, .f32⟩
  | 36 => ⟨S10000x1, .f32⟩
  | 37 => ⟨S_, .f32⟩
  | 38 => ⟨S10000x1, .f32⟩
  | 39 => ⟨S10000x1, .f32⟩
  | 40 => ⟨S10000x128, .f32⟩
  | 41 => ⟨S10000x128, .f32⟩
  | 42 => ⟨S10000x128, .f32⟩
  | 43 => ⟨S_, .f32⟩
  | 44 => ⟨S10000, .f32⟩
  | 45 => ⟨S10000x1, .f32⟩
  | 46 => ⟨S_, .f32⟩
  | 47 => ⟨S10000x1, .f32⟩
  | 48 => ⟨S10000x1, .f32⟩
  | 49 => ⟨S10000x128, .f32⟩
  | 50 => ⟨S10000x128, .f32⟩
  | 51 => ⟨S_, .f32⟩
  | 52 => ⟨S10000x1, .f32⟩
  | 53 => ⟨S10000x1, .f32⟩
  | 54 => ⟨S10000x1, .f32⟩
  | 55 => ⟨S10000x128, .f32⟩
  | 56 => ⟨S10000x128, .f32⟩
  | 57 => ⟨S1x128, .f32⟩
  | 58 => ⟨S10000x128, .f32⟩
  | 59 => ⟨S10000x128, .f32⟩
  | 60 => ⟨S1x128, .f32⟩
  | 61 => ⟨S10000x128, .f32⟩
  | 62 => ⟨S10000x128, .f32⟩
  | 63 => ⟨S_, .f32⟩
  | 64 => ⟨S10000x128, .f32⟩
  | 65 => ⟨S10000x128, .f32⟩
  | 66 => ⟨S10000x128, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_cst_0 : Ref sig .tc := ⟨.hbm, 28, rfl⟩
abbrev main_v9 : Ref sig .tc := ⟨.hbm, 29, rfl⟩
abbrev main_v10 : Ref sig .tc := ⟨.hbm, 30, rfl⟩
abbrev main_cst_1 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst_2 : Ref sig .tc := ⟨.hbm, 37, rfl⟩
abbrev main_v16 : Ref sig .tc := ⟨.hbm, 38, rfl⟩
abbrev main_v17 : Ref sig .tc := ⟨.hbm, 39, rfl⟩
abbrev main_cst_3 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst_4 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_call0_cst : Ref sig .tc := ⟨.hbm, 57, rfl⟩
abbrev main_call0_v0 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_5 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_6 : Ref sig .tc := ⟨.hbm, 70, rfl⟩
abbrev main_v43 : Ref sig .tc := ⟨.hbm, 71, rfl⟩
abbrev main_v44 : Ref sig .tc := ⟨.hbm, 72, rfl⟩
abbrev main_cst_7 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_8 : Ref sig .tc := ⟨.hbm, 79, rfl⟩
abbrev main_v50 : Ref sig .tc := ⟨.hbm, 80, rfl⟩
abbrev main_v51 : Ref sig .tc := ⟨.hbm, 81, rfl⟩
abbrev main_cst_9 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_10 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_call1_cst : Ref sig .tc := ⟨.hbm, 99, rfl⟩
abbrev main_call1_v0 : Ref sig .tc := ⟨.hbm, 100, rfl⟩
abbrev main_v67 : Ref sig .tc := ⟨.hbm, 101, rfl⟩
abbrev main_cst_11 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_cst_12 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_cst_13 : Ref sig .tc := ⟨.hbm, 116, rfl⟩
abbrev main_v80 : Ref sig .tc := ⟨.hbm, 117, rfl⟩
abbrev main_v81 : Ref sig .tc := ⟨.hbm, 118, rfl⟩
abbrev main_cst_14 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_cst_15 : Ref sig .tc := ⟨.hbm, 125, rfl⟩
abbrev main_v87 : Ref sig .tc := ⟨.hbm, 126, rfl⟩
abbrev main_v88 : Ref sig .tc := ⟨.hbm, 127, rfl⟩
abbrev main_cst_16 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_cst_17 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_call2_cst : Ref sig .tc := ⟨.hbm, 145, rfl⟩
abbrev main_call2_v0 : Ref sig .tc := ⟨.hbm, 146, rfl⟩
abbrev main_v104 : Ref sig .tc := ⟨.hbm, 147, rfl⟩
abbrev main_cst_18 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_cst_19 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_cst_20 : Ref sig .tc := ⟨.hbm, 162, rfl⟩
abbrev main_v117 : Ref sig .tc := ⟨.hbm, 163, rfl⟩
abbrev main_v118 : Ref sig .tc := ⟨.hbm, 164, rfl⟩
abbrev main_cst_21 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_cst_22 : Ref sig .tc := ⟨.hbm, 171, rfl⟩
abbrev main_v124 : Ref sig .tc := ⟨.hbm, 172, rfl⟩
abbrev main_v125 : Ref sig .tc := ⟨.hbm, 173, rfl⟩
abbrev main_cst_23 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_cst_24 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_cst_25 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩

abbrev nD : Nat := 1
abbrev τ : Topo := Topo.v7x

variable {F : FTy → Type} [FloatOps F]
-- ==== Proof.Body1I.lean ====
/- The second call's kernel body, run at a symbolic grid point in each of its three passes. -/
module

public import proofs.«01_k».proof.Proof.Gen.KernelIdeal.Points
public import proofs.«01_k».proof.Proof.Gen.KernelIdeal.Skeleton
public import Idealize.ShloMosaic.Lib.Ring
public import Idealize.ShloMosaic.Lib.Tactic
public import Idealize.ShloMosaic.Lib.WordCmp
public import Idealize.ShloMosaic.Lib.Pipeline.FrameBody
public import Idealize.ShloMosaic.Lib.VecWindow

@[expose] public section

set_option maxRecDepth 16384

noncomputable section

namespace Cert.KernelIdeal.Net

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf Seg HostSeg RegionSeg)
open Cert.KernelIdeal.Gen

variable {F : FTy → Type} [FloatOps F] [Named F]

local notation "𝕄" => MT nD τ sig Unit (Elt F) ℕ (UR sig nD τ) ℕ

/-- The rows one hidden layer of the second call leaves: from the bias and layer-norm rows, the adjacency block, the support and the residual rows. -/
def midHid (b g e : Vec F S1x1x128 .f32) (a : Vec F S1000x10000 .fp8e4m3) (s : Vec F S10000x256 .fp8e4m3) (r : Vec F S1000x128 .f32) : Vec F S1000x128 .f32 :=
  k1_pay4 (k1_pay8 (k1_pay1 b) (k1_pay2 g) (k1_pay3 e) a s r)

/-- The next layer's support, in two halves, of the rows the first hidden layer leaves. -/
def midSup (b g e : Vec F S1x1x128 .f32) (w : Vec F S1x128x128 .f32) (a : Vec F S1000x10000 .fp8e4m3) (s : Vec F S10000x256 .fp8e4m3) (r : Vec F S1000x128 .f32) : Vec F S1000x256 .fp8e4m3 :=
  k1_pay5 (k1_pay8 (k1_pay1 b) (k1_pay2 g) (k1_pay3 e) a s r) w

/-- The next layer's support, in two halves, of the rows the second hidden layer leaves. -/
def midSup2 (b g e : Vec F S1x1x128 .f32) (w : Vec F S1x128x128 .f32) (a : Vec F S1000x10000 .fp8e4m3) (s : Vec F S10000x256 .fp8e4m3) (r : Vec F S1000x128 .f32) : Vec F S1000x256 .fp8e4m3 :=
  k1_pay6 (k1_pay9 w) (k1_pay10 (k1_pay1 b) (k1_pay2 g) (k1_pay3 e) a s r)

set_option maxHeartbeats 1000000 in
/-- The second call's body in its first pass: the rows it computes are stored into the hidden-state scratch, and their next support into the first support scratch. -/
theorem body1_A (c : Dev nD) (i : grid1.Coords) (arg2 : Memref sig .tc .vmem S1000x10000 .fp8e4m3) (harg2 : arg2.IsWhole) (arg3 : Memref sig .tc .vmem S10000x256 .fp8e4m3) (harg3 : arg3.IsWhole) (arg4 : Memref sig .tc .vmem S1000x128 .f32) (harg4 : arg4.IsWhole) (arg5 : Memref sig .tc .vmem S1000x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x128x128 .f32) (harg9 : arg9.IsWhole) (arg10 : Memref sig .tc .vmem S1000x128 .f32) (harg10 : arg10.IsWhole) (arg11 : Memref sig .tc .vmem S10000x256 .fp8e4m3) (harg11 : arg11.IsWhole) (arg12 : Memref sig .tc .vmem S10000x256 .fp8e4m3) (harg12 : arg12.IsWhole) (arg13 : Memref sig .tc .vmem S10000x128 .f32) (harg13 : arg13.IsWhole)
    (h1 : k1_cond1 i = 1#1) (h2 : ¬ k1_cond2 i = 1#1) (h3 : ¬ k1_cond3 i = 1#1) (a : Vec F S1000x10000 .fp8e4m3) (s1 : Vec F S10000x256 .fp8e4m3) (r0 : Vec F S1000x128 .f32) (xr : Vec F S1000x128 .f32) (b : Vec F S1x1x128 .f32) (g : Vec F S1x1x128 .f32) (e : Vec F S1x1x128 .f32) (w : Vec F S1x128x128 .f32) (o : Vec F S1000x128 .f32) (s2 : Vec F S10000x256 .fp8e4m3) (s3 : Vec F S10000x256 .fp8e4m3) (h : Vec F S10000x128 .f32) (E : Set ℕ) (K : PUnit → sProp 𝕄) :
    iprop(owns (c : Thread nD τ) arg2 fullShare (a) ∗ owns (c : Thread nD τ) arg3 fullShare (s1) ∗ owns (c : Thread nD τ) arg4 fullShare (r0) ∗ owns (c : Thread nD τ) arg5 fullShare (xr) ∗ owns (c : Thread nD τ) arg6 fullShare (b) ∗ owns (c : Thread nD τ) arg7 fullShare (g) ∗ owns (c : Thread nD τ) arg8 fullShare (e) ∗ owns (c : Thread nD τ) arg9 fullShare (w) ∗ owns (c : Thread nD τ) arg10 fullShare (o) ∗ owns (c : Thread nD τ) arg11 fullShare (s2) ∗ owns (c : Thread nD τ) arg12 fullShare (s3) ∗ owns (c : Thread nD τ) arg13 fullShare (h)
        ∗ (iprop(owns (c : Thread nD τ) arg2 fullShare (a) ∗ owns (c : Thread nD τ) arg3 fullShare (s1) ∗ owns (c : Thread nD τ) arg4 fullShare (r0) ∗ owns (c : Thread nD τ) arg5 fullShare (xr) ∗ owns (c : Thread nD τ) arg6 fullShare (b) ∗ owns (c : Thread nD τ) arg7 fullShare (g) ∗ owns (c : Thread nD τ) arg8 fullShare (e) ∗ owns (c : Thread nD τ) arg9 fullShare (w) ∗ owns (c : Thread nD τ) arg10 fullShare (o) ∗ owns (c : Thread nD τ) arg11 fullShare (VecWindow.put s2 (k1_off2 i) S1000x256.size (midSup b g e w a s1 r0)) ∗ owns (c : Thread nD τ) arg12 fullShare (s3) ∗ owns (c : Thread nD τ) arg13 fullShare (VecWindow.put h (k1_off1 i) S1000x128.size (midHid b g e a s1 r0))) -∗ K ⟨⟩))
      ⊢ wp frame (wpE (defs₀ (F := F)) Variants.none c none) E (cc1__mid_layers_kernel i arg2 harg2 arg3 harg3 arg4 harg4 arg5 harg5 arg6 harg6 arg7 harg7 arg8 harg8 arg9 harg9 arg10 harg10 arg11 harg11 arg12 harg12 arg13 harg13) K := by
  simp only [cc1__mid_layers_kernel_eq_skeleton]; unfold cc1__mid_layers_kernel_skel
  simp only [k1_part1_eq_skeleton, k1_part2_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13
  sl_exec (disch := first | sl_exact h1 | sl_exact h2 | sl_exact h3)
  sl_step
  iapply Hk
  isplitl [H2]
  · iexists _; isplitr
    · ipureintro; exact harg2.read_unread _
    iexact H2
  isplitl [H3]
  · iexists _; isplitr
    · ipureintro; exact harg3.read_unread _
    iexact H3
  isplitl [H4]
  · iexists _; isplitr
    · ipureintro; exact harg4.read_unread _
    iexact H4
  isplitl [H5]
  · iexists _; isplitr
    · ipureintro; exact harg5.read_unread _
    iexact H5
  isplitl [H6]
  · iexists _; isplitr
    · ipureintro; exact harg6.read_unread _
    iexact H6
  isplitl [H7]
  · iexists _; isplitr
    · ipureintro; exact harg7.read_unread _
    iexact H7
  isplitl [H8]
  · iexists _; isplitr
    · ipureintro; exact harg8.read_unread _
    iexact H8
  isplitl [H9]
  · iexists _; isplitr
    · ipureintro; exact harg9.read_unread _
    iexact H9
  isplitl [H10]
  · iexists _; isplitr
    · ipureintro; exact harg10.read_unread _
    iexact H10
  isplitl [H11]
  · iexists _; isplitr; swap; · iexact H11
    ipureintro
    refine (View.read_writes_cons_put _ _ _ _ _ rfl).trans ?_
    rw [View.writes_nil, harg11.read_unread]
    (try delta body1_A.sl.r); (try delta body1_A.sl.r_1); (try delta body1_A.sl.r_2); (try delta body1_A.sl.r_3); (try delta body1_A.sl.r_4); (try delta body1_A.sl.r_5); (try delta body1_A.sl.r_6); (try delta body1_A.sl.r_7); simp only [midHid, midSup, midSup2]; (try rw [show View.readAt (Elt F) arg13.view (Rect.unit (k1_off3 i) ![1000, 128] (k1_off3_inb i h2)).toLoadRect (harg13.unread h) = VecWindow.window h (k1_off3 i) ![1000, 128] (k1_off3_inb i h2) from (View.readAt_unit _ _ _ rfl _).trans (by rw [harg13.read_unread])]); (try rw [show View.readAt (Elt F) arg2.view (Rect.unit ![0, 0] ![1000, 10000] inb_S1000x10000_S1000x10000_0_0).toLoadRect (harg2.unread a) = a from (View.readAt_full _ _ _).trans (harg2.read_unread _)]); (try rw [show View.readAt (Elt F) arg2.view (Rect.unit ![0, 0] S1000x10000.size inb_S1000x10000_S1000x10000_0_0).toLoadRect (harg2.unread a) = a from (View.readAt_full _ _ _).trans (harg2.read_unread _)]); (try rw [show View.readAt (Elt F) arg3.view (Rect.unit ![0, 0] ![10000, 256] inb_S10000x256_S10000x256_0_0).toLoadRect (harg3.unread s1) = s1 from (View.readAt_full _ _ _).trans (harg3.read_unread _)]); (try rw [show View.readAt (Elt F) arg3.view (Rect.unit ![0, 0] S10000x256.size inb_S10000x256_S10000x256_0_0).toLoadRect (harg3.unread s1) = s1 from (View.readAt_full _ _ _).trans (harg3.read_unread _)]); (try rw [show View.readAt (Elt F) arg4.view (Rect.unit ![0, 0] ![1000, 128] inb_S1000x128_S1000x128_0_0).toLoadRect (harg4.unread r0) = r0 from (View.readAt_full _ _ _).trans (harg4.read_unread _)]); (try rw [show View.readAt (Elt F) arg4.view (Rect.unit ![0, 0] S1000x128.size inb_S1000x128_S1000x128_0_0).toLoadRect (harg4.unread r0) = r0 from (View.readAt_full _ _ _).trans (harg4.read_unread _)]); (try rw [show View.readAt (Elt F) arg5.view (Rect.unit ![0, 0] ![1000, 128] inb_S1000x128_S1000x128_0_0).toLoadRect (harg5.unread xr) = xr from (View.readAt_full _ _ _).trans (harg5.read_unread _)]); (try rw [show View.readAt (Elt F) arg5.view (Rect.unit ![0, 0] S1000x128.size inb_S1000x128_S1000x128_0_0).toLoadRect (harg5.unread xr) = xr from (View.readAt_full _ _ _).trans (harg5.read_unread _)]); (try rw [show View.readAt (Elt F) arg6.view (Rect.unit ![0, 0, 0] ![1, 1, 128] inb_S1x1x128_S1x1x128_0_0_0).toLoadRect (harg6.unread b) = b from (View.readAt_full _ _ _).trans (harg6.read_unread _)]); (try rw [show View.readAt (Elt F) arg6.view (Rect.unit ![0, 0, 0] S1x1x128.size inb_S1x1x128_S1x1x128_0_0_0).toLoadRect (harg6.unread b) = b from (View.readAt_full _ _ _).trans (harg6.read_unread _)]); (try rw [show View.readAt (Elt F) arg7.view (Rect.unit ![0, 0, 0] ![1, 1, 128] inb_S1x1x128_S1x1x128_0_0_0).toLoadRect (harg7.unread g) = g from (View.readAt_full _ _ _).trans (harg7.read_unread _)]); (try rw [show View.readAt (Elt F) arg7.view (Rect.unit ![0, 0, 0] S1x1x128.size inb_S1x1x128_S1x1x128_0_0_0).toLoadRect (harg7.unread g) = g from (View.readAt_full _ _ _).trans (harg7.read_unread _)]); (try rw [show View.readAt (Elt F) arg8.view (Rect.unit ![0, 0, 0] ![1, 1, 128] inb_S1x1x128_S1x1x128_0_0_0).toLoadRect (harg8.unread e) = e from (View.readAt_full _ _ _).trans (harg8.read_unread _)]); (try rw [show View.readAt (Elt F) arg8.view (Rect.unit ![0, 0, 0] S1x1x128.size inb_S1x1x128_S1x1x128_0_0_0).toLoadRect (harg8.unread e) = e from (View.readAt_full _ _ _).trans (harg8.read_unread _)]); (try rw [show View.readAt (Elt F) arg9.view (Rect.unit ![0, 0, 0] ![1, 128, 128] inb_S1x128x128_S1x128x128_0_0_0).toLoadRect (harg9.unread w) = w from (View.readAt_full _ _ _).trans (harg9.read_unread _)]); (try rw [show View.readAt (Elt F) arg9.view (Rect.unit ![0, 0, 0] S1x128x128.size inb_S1x128x128_S1x128x128_0_0_0).toLoadRect (harg9.unread w) = w from (View.readAt_full _ _ _).trans (harg9.read_unread _)]); (try rw [show View.readAt (Elt F) arg11.view (Rect.unit ![0, 0] ![10000, 256] inb_S10000x256_S10000x256_0_0).toLoadRect (harg11.unread s2) = s2 from (View.readAt_full _ _ _).trans (harg11.read_unread _)]); (try rw [show View.readAt (Elt F) arg11.view (Rect.unit ![0, 0] S10000x256.size inb_S10000x256_S10000x256_0_0).toLoadRect (harg11.unread s2) = s2 from (View.readAt_full _ _ _).trans (harg11.read_unread _)]); (try rw [show View.readAt (Elt F) arg12.view (Rect.unit ![0, 0] ![10000, 256] inb_S10000x256_S10000x256_0_0).toLoadRect (harg12.unread s3) = s3 from (View.readAt_full _ _ _).trans (harg12.read_unread _)]); (try rw [show View.readAt (Elt F) arg12.view (Rect.unit ![0, 0] S10000x256.size inb_S10000x256_S10000x256_0_0).toLoadRect (harg12.unread s3) = s3 from (View.readAt_full _ _ _).trans (harg12.read_unread _)]); (try rfl)
  isplitl [H12]
  · iexists _; isplitr
    · ipureintro; exact harg12.read_unread _
    iexact H12
  iexists _; isplitr; swap; · iexact H13
  ipureintro
  refine (View.read_writes_cons_put _ _ _ _ _ rfl).trans ?_
  rw [View.writes_nil, harg13.read_unread]
  (try delta body1_A.sl.r); (try delta body1_A.sl.r_1); (try delta body1_A.sl.r_2); (try delta body1_A.sl.r_3); (try delta body1_A.sl.r_4); (try delta body1_A.sl.r_5); (try delta body1_A.sl.r_6); (try delta body1_A.sl.r_7); simp only [midHid, midSup, midSup2]; (try rw [show View.readAt (Elt F) arg13.view (Rect.unit (k1_off3 i) ![1000, 128] (k1_off3_inb i h2)).toLoadRect (harg13.unread h) = VecWindow.window h (k1_off3 i) ![1000, 128] (k1_off3_inb i h2) from (View.readAt_unit _ _ _ rfl _).trans (by rw [harg13.read_unread])]); (try rw [show View.readAt (Elt F) arg2.view (Rect.unit ![0, 0] ![1000, 10000] inb_S1000x10000_S1000x10000_0_0).toLoadRect (harg2.unread a) = a from (View.readAt_full _ _ _).trans (harg2.read_unread _)]); (try rw [show View.readAt (Elt F) arg2.view (Rect.unit ![0, 0] S1000x10000.size inb_S1000x10000_S1000x10000_0_0).toLoadRect (harg2.unread a) = a from (View.readAt_full _ _ _).trans (harg2.read_unread _)]); (try rw [show View.readAt (Elt F) arg3.view (Rect.unit ![0, 0] ![10000, 256] inb_S10000x256_S10000x256_0_0).toLoadRect (harg3.unread s1) = s1 from (View.readAt_full _ _ _).trans (harg3.read_unread _)]); (try rw [show View.readAt (Elt F) arg3.view (Rect.unit ![0, 0] S10000x256.size inb_S10000x256_S10000x256_0_0).toLoadRect (harg3.unread s1) = s1 from (View.readAt_full _ _ _).trans (harg3.read_unread _)]); (try rw [show View.readAt (Elt F) arg4.view (Rect.unit ![0, 0] ![1000, 128] inb_S1000x128_S1000x128_0_0).toLoadRect (harg4.unread r0) = r0 from (View.readAt_full _ _ _).trans (harg4.read_unread _)]); (try rw [show View.readAt (Elt F) arg4.view (Rect.unit ![0, 0] S1000x128.size inb_S1000x128_S1000x128_0_0).toLoadRect (harg4.unread r0) = r0 from (View.readAt_full _ _ _).trans (harg4.read_unread _)]); (try rw [show View.readAt (Elt F) arg5.view (Rect.unit ![0, 0] ![1000, 128] inb_S1000x128_S1000x128_0_0).toLoadRect (harg5.unread xr) = xr from (View.readAt_full _ _ _).trans (harg5.read_unread _)]); (try rw [show View.readAt (Elt F) arg5.view (Rect.unit ![0, 0] S1000x128.size inb_S1000x128_S1000x128_0_0).toLoadRect (harg5.unread xr) = xr from (View.readAt_full _ _ _).trans (harg5.read_unread _)]); (try rw [show View.readAt (Elt F) arg6.view (Rect.unit ![0, 0, 0] ![1, 1, 128] inb_S1x1x128_S1x1x128_0_0_0).toLoadRect (harg6.unread b) = b from (View.readAt_full _ _ _).trans (harg6.read_unread _)]); (try rw [show View.readAt (Elt F) arg6.view (Rect.unit ![0, 0, 0] S1x1x128.size inb_S1x1x128_S1x1x128_0_0_0).toLoadRect (harg6.unread b) = b from (View.readAt_full _ _ _).trans (harg6.read_unread _)]); (try rw [show View.readAt (Elt F) arg7.view (Rect.unit ![0, 0, 0] ![1, 1, 128] inb_S1x1x128_S1x1x128_0_0_0).toLoadRect (harg7.unread g) = g from (View.readAt_full _ _ _).trans (harg7.read_unread _)]); (try rw [show View.readAt (Elt F) arg7.view (Rect.unit ![0, 0, 0] S1x1x128.size inb_S1x1x128_S1x1x128_0_0_0).toLoadRect (harg7.unread g) = g from (View.readAt_full _ _ _).trans (harg7.read_unread _)]); (try rw [show View.readAt (Elt F) arg8.view (Rect.unit ![0, 0, 0] ![1, 1, 128] inb_S1x1x128_S1x1x128_0_0_0).toLoadRect (harg8.unread e) = e from (View.readAt_full _ _ _).trans (harg8.read_unread _)]); (try rw [show View.readAt (Elt F) arg8.view (Rect.unit ![0, 0, 0] S1x1x128.size inb_S1x1x128_S1x1x128_0_0_0).toLoadRect (harg8.unread e) = e from (View.readAt_full _ _ _).trans (harg8.read_unread _)]); (try rw [show View.readAt (Elt F) arg9.view (Rect.unit ![0, 0, 0] ![1, 128, 128] inb_S1x128x128_S1x128x128_0_0_0).toLoadRect (harg9.unread w) = w from (View.readAt_full _ _ _).trans (harg9.read_unread _)]); (try rw [show View.readAt (Elt F) arg9.view (Rect.unit ![0, 0, 0] S1x128x128.size inb_S1x128x128_S1x128x128_0_0_0).toLoadRect (harg9.unread w) = w from (View.readAt_full _ _ _).trans (harg9.read_unread _)]); (try rw [show View.readAt (Elt F) arg11.view (Rect.unit ![0, 0] ![10000, 256] inb_S10000x256_S10000x256_0_0).toLoadRect (harg11.unread s2) = s2 from (View.readAt_full _ _ _).trans (harg11.read_unread _)]); (try rw [show View.readAt (Elt F) arg11.view (Rect.unit ![0, 0] S10000x256.size inb_S10000x256_S10000x256_0_0).toLoadRect (harg11.unread s2) = s2 from (View.readAt_full _ _ _).trans (harg11.read_unread _)]); (try rw [show View.readAt (Elt F) arg12.view (Rect.unit ![0, 0] ![10000, 256] inb_S10000x256_S10000x256_0_0).toLoadRect (harg12.unread s3) = s3 from (View.readAt_full _ _ _).trans (harg12.read_unread _)]); (try rw [show View.readAt (Elt F) arg12.view (Rect.unit ![0, 0] S10000x256.size inb_S10000x256_S10000x256_0_0).toLoadRect (harg12.unread s3) = s3 from (View.readAt_full _ _ _).trans (harg12.read_unread _)]); (try rfl)

set_option maxHeartbeats 1000000 in
/-- The second call's body in its second pass: it reads the first pass's scratches and stores the next support into the second support scratch. -/
theorem body1_B (c : Dev nD) (i : grid1.Coords) (arg2 : Memref sig .tc .vmem S1000x10000 .fp8e4m3) (harg2 : arg2.IsWhole) (arg3 : Memref sig .tc .vmem S10000x256 .fp8e4m3) (harg3 : arg3.IsWhole) (arg4 : Memref sig .tc .vmem S1000x128 .f32) (harg4 : arg4.IsWhole) (arg5 : Memref sig .tc .vmem S1000x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x128x128 .f32) (harg9 : arg9.IsWhole) (arg10 : Memref sig .tc .vmem S1000x128 .f32) (harg10 : arg10.IsWhole) (arg11 : Memref sig .tc .vmem S10000x256 .fp8e4m3) (harg11 : arg11.IsWhole) (arg12 : Memref sig .tc .vmem S10000x256 .fp8e4m3) (harg12 : arg12.IsWhole) (arg13 : Memref sig .tc .vmem S10000x128 .f32) (harg13 : arg13.IsWhole)
    (h1 : ¬ k1_cond1 i = 1#1) (h2 : k1_cond2 i = 1#1) (h3 : ¬ k1_cond3 i = 1#1) (a : Vec F S1000x10000 .fp8e4m3) (s1 : Vec F S10000x256 .fp8e4m3) (r0 : Vec F S1000x128 .f32) (xr : Vec F S1000x128 .f32) (b : Vec F S1x1x128 .f32) (g : Vec F S1x1x128 .f32) (e : Vec F S1x1x128 .f32) (w : Vec F S1x128x128 .f32) (o : Vec F S1000x128 .f32) (s2 : Vec F S10000x256 .fp8e4m3) (s3 : Vec F S10000x256 .fp8e4m3) (h : Vec F S10000x128 .f32) (E : Set ℕ) (K : PUnit → sProp 𝕄) :
    iprop(owns (c : Thread nD τ) arg2 fullShare (a) ∗ owns (c : Thread nD τ) arg3 fullShare (s1) ∗ owns (c : Thread nD τ) arg4 fullShare (r0) ∗ owns (c : Thread nD τ) arg5 fullShare (xr) ∗ owns (c : Thread nD τ) arg6 fullShare (b) ∗ owns (c : Thread nD τ) arg7 fullShare (g) ∗ owns (c : Thread nD τ) arg8 fullShare (e) ∗ owns (c : Thread nD τ) arg9 fullShare (w) ∗ owns (c : Thread nD τ) arg10 fullShare (o) ∗ owns (c : Thread nD τ) arg11 fullShare (s2) ∗ owns (c : Thread nD τ) arg12 fullShare (s3) ∗ owns (c : Thread nD τ) arg13 fullShare (h)
        ∗ (iprop(owns (c : Thread nD τ) arg2 fullShare (a) ∗ owns (c : Thread nD τ) arg3 fullShare (s1) ∗ owns (c : Thread nD τ) arg4 fullShare (r0) ∗ owns (c : Thread nD τ) arg5 fullShare (xr) ∗ owns (c : Thread nD τ) arg6 fullShare (b) ∗ owns (c : Thread nD τ) arg7 fullShare (g) ∗ owns (c : Thread nD τ) arg8 fullShare (e) ∗ owns (c : Thread nD τ) arg9 fullShare (w) ∗ owns (c : Thread nD τ) arg10 fullShare (o) ∗ owns (c : Thread nD τ) arg11 fullShare (s2) ∗ owns (c : Thread nD τ) arg12 fullShare (VecWindow.put s3 (k1_off4 i) S1000x256.size (midSup2 b g e w a s2 (VecWindow.window h (k1_off3 i) S1000x128.size (k1_off3_inb i h2)))) ∗ owns (c : Thread nD τ) arg13 fullShare (h)) -∗ K ⟨⟩))
      ⊢ wp frame (wpE (defs₀ (F := F)) Variants.none c none) E (cc1__mid_layers_kernel i arg2 harg2 arg3 harg3 arg4 harg4 arg5 harg5 arg6 harg6 arg7 harg7 arg8 harg8 arg9 harg9 arg10 harg10 arg11 harg11 arg12 harg12 arg13 harg13) K := by
  simp only [cc1__mid_layers_kernel_eq_skeleton]; unfold cc1__mid_layers_kernel_skel
  simp only [k1_part1_eq_skeleton, k1_part2_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13
  sl_exec (disch := first | sl_exact h1 | sl_exact h2 | sl_exact h3)
  sl_step
  iapply Hk
  isplitl [H2]
  · iexists _; isplitr
    · ipureintro; exact harg2.read_unread _
    iexact H2
  isplitl [H3]
  · iexists _; isplitr
    · ipureintro; exact harg3.read_unread _
    iexact H3
  isplitl [H4]
  · iexists _; isplitr
    · ipureintro; exact harg4.read_unread _
    iexact H4
  isplitl [H5]
  · iexists _; isplitr
    · ipureintro; exact harg5.read_unread _
    iexact H5
  isplitl [H6]
  · iexists _; isplitr
    · ipureintro; exact harg6.read_unread _
    iexact H6
  isplitl [H7]
  · iexists _; isplitr
    · ipureintro; exact harg7.read_unread _
    iexact H7
  isplitl [H8]
  · iexists _; isplitr
    · ipureintro; exact harg8.read_unread _
    iexact H8
  isplitl [H9]
  · iexists _; isplitr
    · ipureintro; exact harg9.read_unread _
    iexact H9
  isplitl [H10]
  · iexists _; isplitr
    · ipureintro; exact harg10.read_unread _
    iexact H10
  isplitl [H11]
  · iexists _; isplitr
    · ipureintro; exact harg11.read_unread _
    iexact H11
  isplitl [H12]
  · iexists _; isplitr; swap; · iexact H12
    ipureintro
    refine (View.read_writes_cons_put _ _ _ _ _ rfl).trans ?_
    rw [View.writes_nil, harg12.read_unread]
    (try delta body1_B.sl.r); (try delta body1_B.sl.r_1); (try delta body1_B.sl.r_2); (try delta body1_B.sl.r_3); (try delta body1_B.sl.r_4); (try delta body1_B.sl.r_5); (try delta body1_B.sl.r_6); (try delta body1_B.sl.r_7); simp only [midHid, midSup, midSup2]; (try rw [show View.readAt (Elt F) arg13.view (Rect.unit (k1_off3 i) ![1000, 128] (k1_off3_inb i h2)).toLoadRect (harg13.unread h) = VecWindow.window h (k1_off3 i) ![1000, 128] (k1_off3_inb i h2) from (View.readAt_unit _ _ _ rfl _).trans (by rw [harg13.read_unread])]); (try rw [show View.readAt (Elt F) arg2.view (Rect.unit ![0, 0] ![1000, 10000] inb_S1000x10000_S1000x10000_0_0).toLoadRect (harg2.unread a) = a from (View.readAt_full _ _ _).trans (harg2.read_unread _)]); (try rw [show View.readAt (Elt F) arg2.view (Rect.unit ![0, 0] S1000x10000.size inb_S1000x10000_S1000x10000_0_0).toLoadRect (harg2.unread a) = a from (View.readAt_full _ _ _).trans (harg2.read_unread _)]); (try rw [show View.readAt (Elt F) arg3.view (Rect.unit ![0, 0] ![10000, 256] inb_S10000x256_S10000x256_0_0).toLoadRect (harg3.unread s1) = s1 from (View.readAt_full _ _ _).trans (harg3.read_unread _)]); (try rw [show View.readAt (Elt F) arg3.view (Rect.unit ![0, 0] S10000x256.size inb_S10000x256_S10000x256_0_0).toLoadRect (harg3.unread s1) = s1 from (View.readAt_full _ _ _).trans (harg3.read_unread _)]); (try rw [show View.readAt (Elt F) arg4.view (Rect.unit ![0, 0] ![1000, 128] inb_S1000x128_S1000x128_0_0).toLoadRect (harg4.unread r0) = r0 from (View.readAt_full _ _ _).trans (harg4.read_unread _)]); (try rw [show View.readAt (Elt F) arg4.view (Rect.unit ![0, 0] S1000x128.size inb_S1000x128_S1000x128_0_0).toLoadRect (harg4.unread r0) = r0 from (View.readAt_full _ _ _).trans (harg4.read_unread _)]); (try rw [show View.readAt (Elt F) arg5.view (Rect.unit ![0, 0] ![1000, 128] inb_S1000x128_S1000x128_0_0).toLoadRect (harg5.unread xr) = xr from (View.readAt_full _ _ _).trans (harg5.read_unread _)]); (try rw [show View.readAt (Elt F) arg5.view (Rect.unit ![0, 0] S1000x128.size inb_S1000x128_S1000x128_0_0).toLoadRect (harg5.unread xr) = xr from (View.readAt_full _ _ _).trans (harg5.read_unread _)]); (try rw [show View.readAt (Elt F) arg6.view (Rect.unit ![0, 0, 0] ![1, 1, 128] inb_S1x1x128_S1x1x128_0_0_0).toLoadRect (harg6.unread b) = b from (View.readAt_full _ _ _).trans (harg6.read_unread _)]); (try rw [show View.readAt (Elt F) arg6.view (Rect.unit ![0, 0, 0] S1x1x128.size inb_S1x1x128_S1x1x128_0_0_0).toLoadRect (harg6.unread b) = b from (View.readAt_full _ _ _).trans (harg6.read_unread _)]); (try rw [show View.readAt (Elt F) arg7.view (Rect.unit ![0, 0, 0] ![1, 1, 128] inb_S1x1x128_S1x1x128_0_0_0).toLoadRect (harg7.unread g) = g from (View.readAt_full _ _ _).trans (harg7.read_unread _)]); (try rw [show View.readAt (Elt F) arg7.view (Rect.unit ![0, 0, 0] S1x1x128.size inb_S1x1x128_S1x1x128_0_0_0).toLoadRect (harg7.unread g) = g from (View.readAt_full _ _ _).trans (harg7.read_unread _)]); (try rw [show View.readAt (Elt F) arg8.view (Rect.unit ![0, 0, 0] ![1, 1, 128] inb_S1x1x128_S1x1x128_0_0_0).toLoadRect (harg8.unread e) = e from (View.readAt_full _ _ _).trans (harg8.read_unread _)]); (try rw [show View.readAt (Elt F) arg8.view (Rect.unit ![0, 0, 0] S1x1x128.size inb_S1x1x128_S1x1x128_0_0_0).toLoadRect (harg8.unread e) = e from (View.readAt_full _ _ _).trans (harg8.read_unread _)]); (try rw [show View.readAt (Elt F) arg9.view (Rect.unit ![0, 0, 0] ![1, 128, 128] inb_S1x128x128_S1x128x128_0_0_0).toLoadRect (harg9.unread w) = w from (View.readAt_full _ _ _).trans (harg9.read_unread _)]); (try rw [show View.readAt (Elt F) arg9.view (Rect.unit ![0, 0, 0] S1x128x128.size inb_S1x128x128_S1x128x128_0_0_0).toLoadRect (harg9.unread w) = w from (View.readAt_full _ _ _).trans (harg9.read_unread _)]); (try rw [show View.readAt (Elt F) arg11.view (Rect.unit ![0, 0] ![10000, 256] inb_S10000x256_S10000x256_0_0).toLoadRect (harg11.unread s2) = s2 from (View.readAt_full _ _ _).trans (harg11.read_unread _)]); (try rw [show View.readAt (Elt F) arg11.view (Rect.unit ![0, 0] S10000x256.size inb_S10000x256_S10000x256_0_0).toLoadRect (harg11.unread s2) = s2 from (View.readAt_full _ _ _).trans (harg11.read_unread _)]); (try rw [show View.readAt (Elt F) arg12.view (Rect.unit ![0, 0] ![10000, 256] inb_S10000x256_S10000x256_0_0).toLoadRect (harg12.unread s3) = s3 from (View.readAt_full _ _ _).trans (harg12.read_unread _)]); (try rw [show View.readAt (Elt F) arg12.view (Rect.unit ![0, 0] S10000x256.size inb_S10000x256_S10000x256_0_0).toLoadRect (harg12.unread s3) = s3 from (View.readAt_full _ _ _).trans (harg12.read_unread _)]); (try rfl)
  iexists _; isplitr
  · ipureintro; exact harg13.read_unread _
  iexact H13

set_option maxHeartbeats 1000000 in
/-- The second call's body in its last pass: it stores the output rows. -/
theorem body1_C (c : Dev nD) (i : grid1.Coords) (arg2 : Memref sig .tc .vmem S1000x10000 .fp8e4m3) (harg2 : arg2.IsWhole) (arg3 : Memref sig .tc .vmem S10000x256 .fp8e4m3) (harg3 : arg3.IsWhole) (arg4 : Memref sig .tc .vmem S1000x128 .f32) (harg4 : arg4.IsWhole) (arg5 : Memref sig .tc .vmem S1000x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x128x128 .f32) (harg9 : arg9.IsWhole) (arg10 : Memref sig .tc .vmem S1000x128 .f32) (harg10 : arg10.IsWhole) (arg11 : Memref sig .tc .vmem S10000x256 .fp8e4m3) (harg11 : arg11.IsWhole) (arg12 : Memref sig .tc .vmem S10000x256 .fp8e4m3) (harg12 : arg12.IsWhole) (arg13 : Memref sig .tc .vmem S10000x128 .f32) (harg13 : arg13.IsWhole)
    (h1 : ¬ k1_cond1 i = 1#1) (h2 : ¬ k1_cond2 i = 1#1) (h3 : k1_cond3 i = 1#1) (a : Vec F S1000x10000 .fp8e4m3) (s1 : Vec F S10000x256 .fp8e4m3) (r0 : Vec F S1000x128 .f32) (xr : Vec F S1000x128 .f32) (b : Vec F S1x1x128 .f32) (g : Vec F S1x1x128 .f32) (e : Vec F S1x1x128 .f32) (w : Vec F S1x128x128 .f32) (o : Vec F S1000x128 .f32) (s2 : Vec F S10000x256 .fp8e4m3) (s3 : Vec F S10000x256 .fp8e4m3) (h : Vec F S10000x128 .f32) (E : Set ℕ) (K : PUnit → sProp 𝕄) :
    iprop(owns (c : Thread nD τ) arg2 fullShare (a) ∗ owns (c : Thread nD τ) arg3 fullShare (s1) ∗ owns (c : Thread nD τ) arg4 fullShare (r0) ∗ owns (c : Thread nD τ) arg5 fullShare (xr) ∗ owns (c : Thread nD τ) arg6 fullShare (b) ∗ owns (c : Thread nD τ) arg7 fullShare (g) ∗ owns (c : Thread nD τ) arg8 fullShare (e) ∗ owns (c : Thread nD τ) arg9 fullShare (w) ∗ owns (c : Thread nD τ) arg10 fullShare (o) ∗ owns (c : Thread nD τ) arg11 fullShare (s2) ∗ owns (c : Thread nD τ) arg12 fullShare (s3) ∗ owns (c : Thread nD τ) arg13 fullShare (h)
        ∗ (iprop(owns (c : Thread nD τ) arg2 fullShare (a) ∗ owns (c : Thread nD τ) arg3 fullShare (s1) ∗ owns (c : Thread nD τ) arg4 fullShare (r0) ∗ owns (c : Thread nD τ) arg5 fullShare (xr) ∗ owns (c : Thread nD τ) arg6 fullShare (b) ∗ owns (c : Thread nD τ) arg7 fullShare (g) ∗ owns (c : Thread nD τ) arg8 fullShare (e) ∗ owns (c : Thread nD τ) arg9 fullShare (w) ∗ owns (c : Thread nD τ) arg10 fullShare (k1_pay7 b g e a s3 xr) ∗ owns (c : Thread nD τ) arg11 fullShare (s2) ∗ owns (c : Thread nD τ) arg12 fullShare (s3) ∗ owns (c : Thread nD τ) arg13 fullShare (h)) -∗ K ⟨⟩))
      ⊢ wp frame (wpE (defs₀ (F := F)) Variants.none c none) E (cc1__mid_layers_kernel i arg2 harg2 arg3 harg3 arg4 harg4 arg5 harg5 arg6 harg6 arg7 harg7 arg8 harg8 arg9 harg9 arg10 harg10 arg11 harg11 arg12 harg12 arg13 harg13) K := by
  simp only [cc1__mid_layers_kernel_eq_skeleton]; unfold cc1__mid_layers_kernel_skel
  simp only [k1_part1_eq_skeleton, k1_part2_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13
  sl_exec (disch := first | sl_exact h1 | sl_exact h2 | sl_exact h3)
  sl_step
  iapply Hk
  isplitl [H2]
  · iexists _; isplitr
    · ipureintro; exact harg2.read_unread _
    iexact H2
  isplitl [H3]
  · iexists _; isplitr
    · ipureintro; exact harg3.read_unread _
    iexact H3
  isplitl [H4]
  · iexists _; isplitr
    · ipureintro; exact harg4.read_unread _
    iexact H4
  isplitl [H5]
  · iexists _; isplitr
    · ipureintro; exact harg5.read_unread _
    iexact H5
  isplitl [H6]
  · iexists _; isplitr
    · ipureintro; exact harg6.read_unread _
    iexact H6
  isplitl [H7]
  · iexists _; isplitr
    · ipureintro; exact harg7.read_unread _
    iexact H7
  isplitl [H8]
  · iexists _; isplitr
    · ipureintro; exact harg8.read_unread _
    iexact H8
  isplitl [H9]
  · iexists _; isplitr
    · ipureintro; exact harg9.read_unread _
    iexact H9
  isplitl [H10]
  · iexists _; isplitr; swap; · iexact H10
    ipureintro
    refine (View.read_writes_full _ _ _ _ _).trans ?_
    (try delta body1_C.sl.r); (try delta body1_C.sl.r_1); (try delta body1_C.sl.r_2); (try delta body1_C.sl.r_3); (try delta body1_C.sl.r_4); (try delta body1_C.sl.r_5); (try delta body1_C.sl.r_6); (try delta body1_C.sl.r_7); (try rw [show View.readAt (Elt F) arg13.view (Rect.unit (k1_off3 i) ![1000, 128] (k1_off3_inb i h2)).toLoadRect (harg13.unread h) = VecWindow.window h (k1_off3 i) ![1000, 128] (k1_off3_inb i h2) from (View.readAt_unit _ _ _ rfl _).trans (by rw [harg13.read_unread])]); (try rw [show View.readAt (Elt F) arg2.view (Rect.unit ![0, 0] ![1000, 10000] inb_S1000x10000_S1000x10000_0_0).toLoadRect (harg2.unread a) = a from (View.readAt_full _ _ _).trans (harg2.read_unread _)]); (try rw [show View.readAt (Elt F) arg2.view (Rect.unit ![0, 0] S1000x10000.size inb_S1000x10000_S1000x10000_0_0).toLoadRect (harg2.unread a) = a from (View.readAt_full _ _ _).trans (harg2.read_unread _)]); (try rw [show View.readAt (Elt F) arg3.view (Rect.unit ![0, 0] ![10000, 256] inb_S10000x256_S10000x256_0_0).toLoadRect (harg3.unread s1) = s1 from (View.readAt_full _ _ _).trans (harg3.read_unread _)]); (try rw [show View.readAt (Elt F) arg3.view (Rect.unit ![0, 0] S10000x256.size inb_S10000x256_S10000x256_0_0).toLoadRect (harg3.unread s1) = s1 from (View.readAt_full _ _ _).trans (harg3.read_unread _)]); (try rw [show View.readAt (Elt F) arg4.view (Rect.unit ![0, 0] ![1000, 128] inb_S1000x128_S1000x128_0_0).toLoadRect (harg4.unread r0) = r0 from (View.readAt_full _ _ _).trans (harg4.read_unread _)]); (try rw [show View.readAt (Elt F) arg4.view (Rect.unit ![0, 0] S1000x128.size inb_S1000x128_S1000x128_0_0).toLoadRect (harg4.unread r0) = r0 from (View.readAt_full _ _ _).trans (harg4.read_unread _)]); (try rw [show View.readAt (Elt F) arg5.view (Rect.unit ![0, 0] ![1000, 128] inb_S1000x128_S1000x128_0_0).toLoadRect (harg5.unread xr) = xr from (View.readAt_full _ _ _).trans (harg5.read_unread _)]); (try rw [show View.readAt (Elt F) arg5.view (Rect.unit ![0, 0] S1000x128.size inb_S1000x128_S1000x128_0_0).toLoadRect (harg5.unread xr) = xr from (View.readAt_full _ _ _).trans (harg5.read_unread _)]); (try rw [show View.readAt (Elt F) arg6.view (Rect.unit ![0, 0, 0] ![1, 1, 128] inb_S1x1x128_S1x1x128_0_0_0).toLoadRect (harg6.unread b) = b from (View.readAt_full _ _ _).trans (harg6.read_unread _)]); (try rw [show View.readAt (Elt F) arg6.view (Rect.unit ![0, 0, 0] S1x1x128.size inb_S1x1x128_S1x1x128_0_0_0).toLoadRect (harg6.unread b) = b from (View.readAt_full _ _ _).trans (harg6.read_unread _)]); (try rw [show View.readAt (Elt F) arg7.view (Rect.unit ![0, 0, 0] ![1, 1, 128] inb_S1x1x128_S1x1x128_0_0_0).toLoadRect (harg7.unread g) = g from (View.readAt_full _ _ _).trans (harg7.read_unread _)]); (try rw [show View.readAt (Elt F) arg7.view (Rect.unit ![0, 0, 0] S1x1x128.size inb_S1x1x128_S1x1x128_0_0_0).toLoadRect (harg7.unread g) = g from (View.readAt_full _ _ _).trans (harg7.read_unread _)]); (try rw [show View.readAt (Elt F) arg8.view (Rect.unit ![0, 0, 0] ![1, 1, 128] inb_S1x1x128_S1x1x128_0_0_0).toLoadRect (harg8.unread e) = e from (View.readAt_full _ _ _).trans (harg8.read_unread _)]); (try rw [show View.readAt (Elt F) arg8.view (Rect.unit ![0, 0, 0] S1x1x128.size inb_S1x1x128_S1x1x128_0_0_0).toLoadRect (harg8.unread e) = e from (View.readAt_full _ _ _).trans (harg8.read_unread _)]); (try rw [show View.readAt (Elt F) arg9.view (Rect.unit ![0, 0, 0] ![1, 128, 128] inb_S1x128x128_S1x128x128_0_0_0).toLoadRect (harg9.unread w) = w from (View.readAt_full _ _ _).trans (harg9.read_unread _)]); (try rw [show View.readAt (Elt F) arg9.view (Rect.unit ![0, 0, 0] S1x128x128.size inb_S1x128x128_S1x128x128_0_0_0).toLoadRect (harg9.unread w) = w from (View.readAt_full _ _ _).trans (harg9.read_unread _)]); (try rw [show View.readAt (Elt F) arg11.view (Rect.unit ![0, 0] ![10000, 256] inb_S10000x256_S10000x256_0_0).toLoadRect (harg11.unread s2) = s2 from (View.readAt_full _ _ _).trans (harg11.read_unread _)]); (try rw [show View.readAt (Elt F) arg11.view (Rect.unit ![0, 0] S10000x256.size inb_S10000x256_S10000x256_0_0).toLoadRect (harg11.unread s2) = s2 from (View.readAt_full _ _ _).trans (harg11.read_unread _)]); (try rw [show View.readAt (Elt F) arg12.view (Rect.unit ![0, 0] ![10000, 256] inb_S10000x256_S10000x256_0_0).toLoadRect (harg12.unread s3) = s3 from (View.readAt_full _ _ _).trans (harg12.read_unread _)]); (try rw [show View.readAt (Elt F) arg12.view (Rect.unit ![0, 0] S10000x256.size inb_S10000x256_S10000x256_0_0).toLoadRect (harg12.unread s3) = s3 from (View.readAt_full _ _ _).trans (harg12.read_unread _)]); (try rfl)
  isplitl [H11]
  · iexists _; isplitr
    · ipureintro; exact harg11.read_unread _
    iexact H11
  isplitl [H12]
  · iexists _; isplitr
    · ipureintro; exact harg12.read_unread _
    iexact H12
  iexists _; isplitr
  · ipureintro; exact harg13.read_unread _
  iexact H13

end Cert.KernelIdeal.Net

end
-- ==== Proof.Body0I.lean ====
/- The first call's kernel body, run at a symbolic grid point. -/
module

public import proofs.«01_k».proof.Proof.Gen.KernelIdeal.Points
public import proofs.«01_k».proof.Proof.Gen.KernelIdeal.Skeleton
public import Idealize.ShloMosaic.Lib.Ring
public import Idealize.ShloMosaic.Lib.Tactic
public import Idealize.ShloMosaic.Lib.WordCmp
public import Idealize.ShloMosaic.Lib.Pipeline.FrameBody
public import Idealize.ShloMosaic.Lib.VecWindow

@[expose] public section

set_option maxRecDepth 16384

noncomputable section

namespace Cert.KernelIdeal.Net

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf Seg HostSeg RegionSeg)
open Cert.KernelIdeal.Gen

variable {F : FTy → Type} [FloatOps F] [Named F]

local notation "𝕄" => MT nD τ sig Unit (Elt F) ℕ (UR sig nD τ) ℕ

/-- The grid point is the first one, as the kernel tests it. -/
abbrev cond0 (i : grid0.Coords) : Prop := (Scalar.cmpi .ne (Scalar.extui (Scalar.cmpi .eq (BitVec.ofNat 32 (i 0).val) 0#32)) 0#32) = 1#1

/-- The adjacency block as the first call writes it back. -/
def adjOut (a : Vec F S400x10000 .f32) : Vec F S400x10000 .fp8e4m3 := k0_pay4 a

/-- The hidden rows the first call writes back, from the adjacency block, the support, the bias and the layer norm's two rows. -/
def hidOut (a : Vec F S400x10000 .f32) (S : Vec F S10000x128 .bf16) (b g e : Vec F S1x128 .f32) : Vec F S400x128 .f32 :=
  k0_pay1 (k0_pay5 g) (k0_pay6 e) (k0_pay9 a S b) (k0_pay10 a S b)

/-- The next layer's support, in two halves, that the first call writes back beside the hidden rows. -/
def supOut (a : Vec F S400x10000 .f32) (S : Vec F S10000x128 .bf16) (b g e : Vec F S1x128 .f32) (w : Vec F S128x128 .f32) : Vec F S400x256 .fp8e4m3 :=
  k0_pay2 (k0_pay5 g) (k0_pay6 e) (k0_pay9 a S b) (k0_pay10 a S b) w

set_option maxHeartbeats 1000000 in
/-- The first layer's body at the grid's first point: it stores `x @ W` into the scratch, and from it the three outputs. -/
theorem body0_first (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S400x10000 .fp8e4m3) (harg8 : arg8.IsWhole) (arg9 : Memref sig .tc .vmem S400x128 .f32) (harg9 : arg9.IsWhole) (arg10 : Memref sig .tc .vmem S400x256 .fp8e4m3) (harg10 : arg10.IsWhole) (arg11 : Memref sig .tc .vmem S10000x128 .bf16) (harg11 : arg11.IsWhole)
    (hc : cond0 i) (x0 : Vec F S400x10000 .f32) (x1 : Vec F S10000x128 .f32) (x2 : Vec F S128x128 .f32) (x3 : Vec F S1x128 .f32) (x4 : Vec F S1x128 .f32) (x5 : Vec F S1x128 .f32) (x6 : Vec F S128x128 .f32) (E : Set ℕ) (K : PUnit → sProp 𝕄) :
    iprop(owns (c : Thread nD τ) arg1 fullShare (x0) ∗ owns (c : Thread nD τ) arg2 fullShare (x1) ∗ owns (c : Thread nD τ) arg3 fullShare (x2) ∗ owns (c : Thread nD τ) arg4 fullShare (x3) ∗ owns (c : Thread nD τ) arg5 fullShare (x4) ∗ owns (c : Thread nD τ) arg6 fullShare (x5) ∗ owns (c : Thread nD τ) arg7 fullShare (x6) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare (x0) ∗ owns (c : Thread nD τ) arg2 fullShare (x1) ∗ owns (c : Thread nD τ) arg3 fullShare (x2) ∗ owns (c : Thread nD τ) arg4 fullShare (x3) ∗ owns (c : Thread nD τ) arg5 fullShare (x4) ∗ owns (c : Thread nD τ) arg6 fullShare (x5) ∗ owns (c : Thread nD τ) arg7 fullShare (x6) ∗ owns (c : Thread nD τ) arg8 fullShare (adjOut x0) ∗ owns (c : Thread nD τ) arg9 fullShare (hidOut x0 (k0_pay3 x1 x2) x3 x4 x5) ∗ owns (c : Thread nD τ) arg10 fullShare (supOut x0 (k0_pay3 x1 x2) x3 x4 x5 x6) ∗ owns (c : Thread nD τ) arg11 fullShare (k0_pay3 x1 x2)) -∗ K ⟨⟩))
      ⊢ wp frame (wpE (defs₀ (F := F)) Variants.none c none) E (cc0__first_layer_kernel i arg1 harg1 arg2 harg2 arg3 harg3 arg4 harg4 arg5 harg5 arg6 harg6 arg7 harg7 arg8 harg8 arg9 harg9 arg10 harg10 arg11 harg11) K := by
  simp only [cc0__first_layer_kernel_eq_skeleton]; unfold cc0__first_layer_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%ds0, %fs0, -, HS0⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6;
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; swap; · iexact H7
    ipureintro
    refine (View.read_writes_full _ _ _ _ _).trans ?_
    (try delta body0_first.sl.r); (try delta body0_first.sl.r_1); (try delta body0_first.sl.r_2); (try delta body0_first.sl.r_3); (try delta body0_first.sl.r_4); (try delta body0_first.sl.r_5); simp only [adjOut, hidOut, supOut, View.readAt_full, Memref.IsWhole.read_unread, View.readCov_full, View.readAt_writes_full]; (try rw [show View.readAt (Elt F) arg1.view (Rect.unit ![0, 0] ![400, 10000] inb_S400x10000_S400x10000_0_0).toLoadRect (harg1.unread x0) = x0 from (View.readAt_full _ _ _).trans (harg1.read_unread _)]); (try rw [show View.readAt (Elt F) arg2.view (Rect.unit ![0, 0] ![10000, 128] inb_S10000x128_S10000x128_0_0).toLoadRect (harg2.unread x1) = x1 from (View.readAt_full _ _ _).trans (harg2.read_unread _)]); (try rw [show View.readAt (Elt F) arg3.view (Rect.unit ![0, 0] ![128, 128] inb_S128x128_S128x128_0_0).toLoadRect (harg3.unread x2) = x2 from (View.readAt_full _ _ _).trans (harg3.read_unread _)]); (try rw [show View.readAt (Elt F) arg4.view (Rect.unit ![0, 0] ![1, 128] inb_S1x128_S1x128_0_0).toLoadRect (harg4.unread x3) = x3 from (View.readAt_full _ _ _).trans (harg4.read_unread _)]); (try rw [show View.readAt (Elt F) arg5.view (Rect.unit ![0, 0] ![1, 128] inb_S1x128_S1x128_0_0).toLoadRect (harg5.unread x4) = x4 from (View.readAt_full _ _ _).trans (harg5.read_unread _)]); (try rw [show View.readAt (Elt F) arg6.view (Rect.unit ![0, 0] ![1, 128] inb_S1x128_S1x128_0_0).toLoadRect (harg6.unread x5) = x5 from (View.readAt_full _ _ _).trans (harg6.read_unread _)]); (try rw [show View.readAt (Elt F) arg7.view (Rect.unit ![0, 0] ![128, 128] inb_S128x128_S128x128_0_0).toLoadRect (harg7.unread x6) = x6 from (View.readAt_full _ _ _).trans (harg7.read_unread _)])
  isplitl [H8]
  · iexists _; isplitr; swap; · iexact H8
    ipureintro
    refine (View.read_writes_full _ _ _ _ _).trans ?_
    have e7 : body0_first.sl.v7 c arg2 harg2 arg3 harg3 arg11 x1 x2 = k0_pay3 x1 x2 := by
      delta body0_first.sl.v7; refine (View.readCov_full _ _ _ _ _).trans ?_; (try rw [show View.readAt (Elt F) arg1.view (Rect.unit ![0, 0] ![400, 10000] inb_S400x10000_S400x10000_0_0).toLoadRect (harg1.unread x0) = x0 from (View.readAt_full _ _ _).trans (harg1.read_unread _)]); (try rw [show View.readAt (Elt F) arg2.view (Rect.unit ![0, 0] ![10000, 128] inb_S10000x128_S10000x128_0_0).toLoadRect (harg2.unread x1) = x1 from (View.readAt_full _ _ _).trans (harg2.read_unread _)]); (try rw [show View.readAt (Elt F) arg3.view (Rect.unit ![0, 0] ![128, 128] inb_S128x128_S128x128_0_0).toLoadRect (harg3.unread x2) = x2 from (View.readAt_full _ _ _).trans (harg3.read_unread _)]); (try rw [show View.readAt (Elt F) arg4.view (Rect.unit ![0, 0] ![1, 128] inb_S1x128_S1x128_0_0).toLoadRect (harg4.unread x3) = x3 from (View.readAt_full _ _ _).trans (harg4.read_unread _)]); (try rw [show View.readAt (Elt F) arg5.view (Rect.unit ![0, 0] ![1, 128] inb_S1x128_S1x128_0_0).toLoadRect (harg5.unread x4) = x4 from (View.readAt_full _ _ _).trans (harg5.read_unread _)]); (try rw [show View.readAt (Elt F) arg6.view (Rect.unit ![0, 0] ![1, 128] inb_S1x128_S1x128_0_0).toLoadRect (harg6.unread x5) = x5 from (View.readAt_full _ _ _).trans (harg6.read_unread _)]); (try rw [show View.readAt (Elt F) arg7.view (Rect.unit ![0, 0] ![128, 128] inb_S128x128_S128x128_0_0).toLoadRect (harg7.unread x6) = x6 from (View.readAt_full _ _ _).trans (harg7.read_unread _)])
    (try delta body0_first.sl.r); (try delta body0_first.sl.r_1); (try delta body0_first.sl.r_2); (try delta body0_first.sl.r_3); (try delta body0_first.sl.r_4); (try delta body0_first.sl.r_5); simp only [adjOut, hidOut, supOut, View.readAt_full, Memref.IsWhole.read_unread, View.readCov_full, View.readAt_writes_full]; (try rw [show View.readAt (Elt F) arg1.view (Rect.unit ![0, 0] ![400, 10000] inb_S400x10000_S400x10000_0_0).toLoadRect (harg1.unread x0) = x0 from (View.readAt_full _ _ _).trans (harg1.read_unread _)]); (try rw [show View.readAt (Elt F) arg2.view (Rect.unit ![0, 0] ![10000, 128] inb_S10000x128_S10000x128_0_0).toLoadRect (harg2.unread x1) = x1 from (View.readAt_full _ _ _).trans (harg2.read_unread _)]); (try rw [show View.readAt (Elt F) arg3.view (Rect.unit ![0, 0] ![128, 128] inb_S128x128_S128x128_0_0).toLoadRect (harg3.unread x2) = x2 from (View.readAt_full _ _ _).trans (harg3.read_unread _)]); (try rw [show View.readAt (Elt F) arg4.view (Rect.unit ![0, 0] ![1, 128] inb_S1x128_S1x128_0_0).toLoadRect (harg4.unread x3) = x3 from (View.readAt_full _ _ _).trans (harg4.read_unread _)]); (try rw [show View.readAt (Elt F) arg5.view (Rect.unit ![0, 0] ![1, 128] inb_S1x128_S1x128_0_0).toLoadRect (harg5.unread x4) = x4 from (View.readAt_full _ _ _).trans (harg5.read_unread _)]); (try rw [show View.readAt (Elt F) arg6.view (Rect.unit ![0, 0] ![1, 128] inb_S1x128_S1x128_0_0).toLoadRect (harg6.unread x5) = x5 from (View.readAt_full _ _ _).trans (harg6.read_unread _)]); (try rw [show View.readAt (Elt F) arg7.view (Rect.unit ![0, 0] ![128, 128] inb_S128x128_S128x128_0_0).toLoadRect (harg7.unread x6) = x6 from (View.readAt_full _ _ _).trans (harg7.read_unread _)]); rw [e7]
  isplitl [H9]
  · iexists _; isplitr; swap; · iexact H9
    ipureintro
    refine (View.read_writes_full _ _ _ _ _).trans ?_
    have e7 : body0_first.sl.v7 c arg2 harg2 arg3 harg3 arg11 x1 x2 = k0_pay3 x1 x2 := by
      delta body0_first.sl.v7; refine (View.readCov_full _ _ _ _ _).trans ?_; (try rw [show View.readAt (Elt F) arg1.view (Rect.unit ![0, 0] ![400, 10000] inb_S400x10000_S400x10000_0_0).toLoadRect (harg1.unread x0) = x0 from (View.readAt_full _ _ _).trans (harg1.read_unread _)]); (try rw [show View.readAt (Elt F) arg2.view (Rect.unit ![0, 0] ![10000, 128] inb_S10000x128_S10000x128_0_0).toLoadRect (harg2.unread x1) = x1 from (View.readAt_full _ _ _).trans (harg2.read_unread _)]); (try rw [show View.readAt (Elt F) arg3.view (Rect.unit ![0, 0] ![128, 128] inb_S128x128_S128x128_0_0).toLoadRect (harg3.unread x2) = x2 from (View.readAt_full _ _ _).trans (harg3.read_unread _)]); (try rw [show View.readAt (Elt F) arg4.view (Rect.unit ![0, 0] ![1, 128] inb_S1x128_S1x128_0_0).toLoadRect (harg4.unread x3) = x3 from (View.readAt_full _ _ _).trans (harg4.read_unread _)]); (try rw [show View.readAt (Elt F) arg5.view (Rect.unit ![0, 0] ![1, 128] inb_S1x128_S1x128_0_0).toLoadRect (harg5.unread x4) = x4 from (View.readAt_full _ _ _).trans (harg5.read_unread _)]); (try rw [show View.readAt (Elt F) arg6.view (Rect.unit ![0, 0] ![1, 128] inb_S1x128_S1x128_0_0).toLoadRect (harg6.unread x5) = x5 from (View.readAt_full _ _ _).trans (harg6.read_unread _)]); (try rw [show View.readAt (Elt F) arg7.view (Rect.unit ![0, 0] ![128, 128] inb_S128x128_S128x128_0_0).toLoadRect (harg7.unread x6) = x6 from (View.readAt_full _ _ _).trans (harg7.read_unread _)])
    (try delta body0_first.sl.r); (try delta body0_first.sl.r_1); (try delta body0_first.sl.r_2); (try delta body0_first.sl.r_3); (try delta body0_first.sl.r_4); (try delta body0_first.sl.r_5); simp only [adjOut, hidOut, supOut, View.readAt_full, Memref.IsWhole.read_unread, View.readCov_full, View.readAt_writes_full]; (try rw [show View.readAt (Elt F) arg1.view (Rect.unit ![0, 0] ![400, 10000] inb_S400x10000_S400x10000_0_0).toLoadRect (harg1.unread x0) = x0 from (View.readAt_full _ _ _).trans (harg1.read_unread _)]); (try rw [show View.readAt (Elt F) arg2.view (Rect.unit ![0, 0] ![10000, 128] inb_S10000x128_S10000x128_0_0).toLoadRect (harg2.unread x1) = x1 from (View.readAt_full _ _ _).trans (harg2.read_unread _)]); (try rw [show View.readAt (Elt F) arg3.view (Rect.unit ![0, 0] ![128, 128] inb_S128x128_S128x128_0_0).toLoadRect (harg3.unread x2) = x2 from (View.readAt_full _ _ _).trans (harg3.read_unread _)]); (try rw [show View.readAt (Elt F) arg4.view (Rect.unit ![0, 0] ![1, 128] inb_S1x128_S1x128_0_0).toLoadRect (harg4.unread x3) = x3 from (View.readAt_full _ _ _).trans (harg4.read_unread _)]); (try rw [show View.readAt (Elt F) arg5.view (Rect.unit ![0, 0] ![1, 128] inb_S1x128_S1x128_0_0).toLoadRect (harg5.unread x4) = x4 from (View.readAt_full _ _ _).trans (harg5.read_unread _)]); (try rw [show View.readAt (Elt F) arg6.view (Rect.unit ![0, 0] ![1, 128] inb_S1x128_S1x128_0_0).toLoadRect (harg6.unread x5) = x5 from (View.readAt_full _ _ _).trans (harg6.read_unread _)]); (try rw [show View.readAt (Elt F) arg7.view (Rect.unit ![0, 0] ![128, 128] inb_S128x128_S128x128_0_0).toLoadRect (harg7.unread x6) = x6 from (View.readAt_full _ _ _).trans (harg7.read_unread _)]); rw [e7]
  iexists _; isplitr; swap; · iexact HS0
  ipureintro
  refine (View.read_writes_full _ _ _ _ _).trans ?_
  (try delta body0_first.sl.r); (try delta body0_first.sl.r_1); (try delta body0_first.sl.r_2); (try delta body0_first.sl.r_3); (try delta body0_first.sl.r_4); (try delta body0_first.sl.r_5); simp only [adjOut, hidOut, supOut, View.readAt_full, Memref.IsWhole.read_unread, View.readCov_full, View.readAt_writes_full]; (try rw [show View.readAt (Elt F) arg1.view (Rect.unit ![0, 0] ![400, 10000] inb_S400x10000_S400x10000_0_0).toLoadRect (harg1.unread x0) = x0 from (View.readAt_full _ _ _).trans (harg1.read_unread _)]); (try rw [show View.readAt (Elt F) arg2.view (Rect.unit ![0, 0] ![10000, 128] inb_S10000x128_S10000x128_0_0).toLoadRect (harg2.unread x1) = x1 from (View.readAt_full _ _ _).trans (harg2.read_unread _)]); (try rw [show View.readAt (Elt F) arg3.view (Rect.unit ![0, 0] ![128, 128] inb_S128x128_S128x128_0_0).toLoadRect (harg3.unread x2) = x2 from (View.readAt_full _ _ _).trans (harg3.read_unread _)]); (try rw [show View.readAt (Elt F) arg4.view (Rect.unit ![0, 0] ![1, 128] inb_S1x128_S1x128_0_0).toLoadRect (harg4.unread x3) = x3 from (View.readAt_full _ _ _).trans (harg4.read_unread _)]); (try rw [show View.readAt (Elt F) arg5.view (Rect.unit ![0, 0] ![1, 128] inb_S1x128_S1x128_0_0).toLoadRect (harg5.unread x4) = x4 from (View.readAt_full _ _ _).trans (harg5.read_unread _)]); (try rw [show View.readAt (Elt F) arg6.view (Rect.unit ![0, 0] ![1, 128] inb_S1x128_S1x128_0_0).toLoadRect (harg6.unread x5) = x5 from (View.readAt_full _ _ _).trans (harg6.read_unread _)]); (try rw [show View.readAt (Elt F) arg7.view (Rect.unit ![0, 0] ![128, 128] inb_S128x128_S128x128_0_0).toLoadRect (harg7.unread x6) = x6 from (View.readAt_full _ _ _).trans (harg7.read_unread _)])

set_option maxHeartbeats 1000000 in
/-- The first layer's body at a later point: the scratch already holds the support `S`. -/
theorem body0_rest (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S400x10000 .fp8e4m3) (harg8 : arg8.IsWhole) (arg9 : Memref sig .tc .vmem S400x128 .f32) (harg9 : arg9.IsWhole) (arg10 : Memref sig .tc .vmem S400x256 .fp8e4m3) (harg10 : arg10.IsWhole) (arg11 : Memref sig .tc .vmem S10000x128 .bf16) (harg11 : arg11.IsWhole)
    (hc : ¬ cond0 i) (S : Vec F S10000x128 .bf16) (x0 : Vec F S400x10000 .f32) (x1 : Vec F S10000x128 .f32) (x2 : Vec F S128x128 .f32) (x3 : Vec F S1x128 .f32) (x4 : Vec F S1x128 .f32) (x5 : Vec F S1x128 .f32) (x6 : Vec F S128x128 .f32) (E : Set ℕ) (K : PUnit → sProp 𝕄) :
    iprop(owns (c : Thread nD τ) arg1 fullShare (x0) ∗ owns (c : Thread nD τ) arg2 fullShare (x1) ∗ owns (c : Thread nD τ) arg3 fullShare (x2) ∗ owns (c : Thread nD τ) arg4 fullShare (x3) ∗ owns (c : Thread nD τ) arg5 fullShare (x4) ∗ owns (c : Thread nD τ) arg6 fullShare (x5) ∗ owns (c : Thread nD τ) arg7 fullShare (x6) ∗ (∃ d, owns (c : Thread nD τ) arg8 fullShare d) ∗ (∃ d, owns (c : Thread nD τ) arg9 fullShare d) ∗ (∃ d, owns (c : Thread nD τ) arg10 fullShare d) ∗ owns (c : Thread nD τ) arg11 fullShare (S)
        ∗ (iprop(owns (c : Thread nD τ) arg1 fullShare (x0) ∗ owns (c : Thread nD τ) arg2 fullShare (x1) ∗ owns (c : Thread nD τ) arg3 fullShare (x2) ∗ owns (c : Thread nD τ) arg4 fullShare (x3) ∗ owns (c : Thread nD τ) arg5 fullShare (x4) ∗ owns (c : Thread nD τ) arg6 fullShare (x5) ∗ owns (c : Thread nD τ) arg7 fullShare (x6) ∗ owns (c : Thread nD τ) arg8 fullShare (adjOut x0) ∗ owns (c : Thread nD τ) arg9 fullShare (hidOut x0 (S) x3 x4 x5) ∗ owns (c : Thread nD τ) arg10 fullShare (supOut x0 (S) x3 x4 x5 x6) ∗ owns (c : Thread nD τ) arg11 fullShare (S)) -∗ K ⟨⟩))
      ⊢ wp frame (wpE (defs₀ (F := F)) Variants.none c none) E (cc0__first_layer_kernel i arg1 harg1 arg2 harg2 arg3 harg3 arg4 harg4 arg5 harg5 arg6 harg6 arg7 harg7 arg8 harg8 arg9 harg9 arg10 harg10 arg11 harg11) K := by
  simp only [cc0__first_layer_kernel_eq_skeleton]; unfold cc0__first_layer_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%fs0, %hfs0, HS0⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg11.eq_unread hfs0;
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; swap; · iexact H7
    ipureintro
    refine (View.read_writes_full _ _ _ _ _).trans ?_
    (try delta body0_rest.sl.r); (try delta body0_rest.sl.r_1); (try delta body0_rest.sl.r_2); (try delta body0_rest.sl.r_3); (try delta body0_rest.sl.r_4); (try delta body0_rest.sl.r_5); simp only [adjOut, hidOut, supOut, View.readAt_full, Memref.IsWhole.read_unread, View.readCov_full, View.readAt_writes_full]; (try rw [show View.readAt (Elt F) arg1.view (Rect.unit ![0, 0] ![400, 10000] inb_S400x10000_S400x10000_0_0).toLoadRect (harg1.unread x0) = x0 from (View.readAt_full _ _ _).trans (harg1.read_unread _)]); (try rw [show View.readAt (Elt F) arg2.view (Rect.unit ![0, 0] ![10000, 128] inb_S10000x128_S10000x128_0_0).toLoadRect (harg2.unread x1) = x1 from (View.readAt_full _ _ _).trans (harg2.read_unread _)]); (try rw [show View.readAt (Elt F) arg3.view (Rect.unit ![0, 0] ![128, 128] inb_S128x128_S128x128_0_0).toLoadRect (harg3.unread x2) = x2 from (View.readAt_full _ _ _).trans (harg3.read_unread _)]); (try rw [show View.readAt (Elt F) arg4.view (Rect.unit ![0, 0] ![1, 128] inb_S1x128_S1x128_0_0).toLoadRect (harg4.unread x3) = x3 from (View.readAt_full _ _ _).trans (harg4.read_unread _)]); (try rw [show View.readAt (Elt F) arg5.view (Rect.unit ![0, 0] ![1, 128] inb_S1x128_S1x128_0_0).toLoadRect (harg5.unread x4) = x4 from (View.readAt_full _ _ _).trans (harg5.read_unread _)]); (try rw [show View.readAt (Elt F) arg6.view (Rect.unit ![0, 0] ![1, 128] inb_S1x128_S1x128_0_0).toLoadRect (harg6.unread x5) = x5 from (View.readAt_full _ _ _).trans (harg6.read_unread _)]); (try rw [show View.readAt (Elt F) arg7.view (Rect.unit ![0, 0] ![128, 128] inb_S128x128_S128x128_0_0).toLoadRect (harg7.unread x6) = x6 from (View.readAt_full _ _ _).trans (harg7.read_unread _)]); (try rw [show View.readAt (Elt F) arg11.view (Rect.unit ![0, 0] ![10000, 128] inb_S10000x128_S10000x128_0_0).toLoadRect (harg11.unread S) = S from (View.readAt_full _ _ _).trans (harg11.read_unread _)])
  isplitl [H8]
  · iexists _; isplitr; swap; · iexact H8
    ipureintro
    refine (View.read_writes_full _ _ _ _ _).trans ?_
    (try delta body0_rest.sl.r); (try delta body0_rest.sl.r_1); (try delta body0_rest.sl.r_2); (try delta body0_rest.sl.r_3); (try delta body0_rest.sl.r_4); (try delta body0_rest.sl.r_5); simp only [adjOut, hidOut, supOut, View.readAt_full, Memref.IsWhole.read_unread, View.readCov_full, View.readAt_writes_full]; (try rw [show View.readAt (Elt F) arg1.view (Rect.unit ![0, 0] ![400, 10000] inb_S400x10000_S400x10000_0_0).toLoadRect (harg1.unread x0) = x0 from (View.readAt_full _ _ _).trans (harg1.read_unread _)]); (try rw [show View.readAt (Elt F) arg2.view (Rect.unit ![0, 0] ![10000, 128] inb_S10000x128_S10000x128_0_0).toLoadRect (harg2.unread x1) = x1 from (View.readAt_full _ _ _).trans (harg2.read_unread _)]); (try rw [show View.readAt (Elt F) arg3.view (Rect.unit ![0, 0] ![128, 128] inb_S128x128_S128x128_0_0).toLoadRect (harg3.unread x2) = x2 from (View.readAt_full _ _ _).trans (harg3.read_unread _)]); (try rw [show View.readAt (Elt F) arg4.view (Rect.unit ![0, 0] ![1, 128] inb_S1x128_S1x128_0_0).toLoadRect (harg4.unread x3) = x3 from (View.readAt_full _ _ _).trans (harg4.read_unread _)]); (try rw [show View.readAt (Elt F) arg5.view (Rect.unit ![0, 0] ![1, 128] inb_S1x128_S1x128_0_0).toLoadRect (harg5.unread x4) = x4 from (View.readAt_full _ _ _).trans (harg5.read_unread _)]); (try rw [show View.readAt (Elt F) arg6.view (Rect.unit ![0, 0] ![1, 128] inb_S1x128_S1x128_0_0).toLoadRect (harg6.unread x5) = x5 from (View.readAt_full _ _ _).trans (harg6.read_unread _)]); (try rw [show View.readAt (Elt F) arg7.view (Rect.unit ![0, 0] ![128, 128] inb_S128x128_S128x128_0_0).toLoadRect (harg7.unread x6) = x6 from (View.readAt_full _ _ _).trans (harg7.read_unread _)]); (try rw [show View.readAt (Elt F) arg11.view (Rect.unit ![0, 0] ![10000, 128] inb_S10000x128_S10000x128_0_0).toLoadRect (harg11.unread S) = S from (View.readAt_full _ _ _).trans (harg11.read_unread _)])
  isplitl [H9]
  · iexists _; isplitr; swap; · iexact H9
    ipureintro
    refine (View.read_writes_full _ _ _ _ _).trans ?_
    (try delta body0_rest.sl.r); (try delta body0_rest.sl.r_1); (try delta body0_rest.sl.r_2); (try delta body0_rest.sl.r_3); (try delta body0_rest.sl.r_4); (try delta body0_rest.sl.r_5); simp only [adjOut, hidOut, supOut, View.readAt_full, Memref.IsWhole.read_unread, View.readCov_full, View.readAt_writes_full]; (try rw [show View.readAt (Elt F) arg1.view (Rect.unit ![0, 0] ![400, 10000] inb_S400x10000_S400x10000_0_0).toLoadRect (harg1.unread x0) = x0 from (View.readAt_full _ _ _).trans (harg1.read_unread _)]); (try rw [show View.readAt (Elt F) arg2.view (Rect.unit ![0, 0] ![10000, 128] inb_S10000x128_S10000x128_0_0).toLoadRect (harg2.unread x1) = x1 from (View.readAt_full _ _ _).trans (harg2.read_unread _)]); (try rw [show View.readAt (Elt F) arg3.view (Rect.unit ![0, 0] ![128, 128] inb_S128x128_S128x128_0_0).toLoadRect (harg3.unread x2) = x2 from (View.readAt_full _ _ _).trans (harg3.read_unread _)]); (try rw [show View.readAt (Elt F) arg4.view (Rect.unit ![0, 0] ![1, 128] inb_S1x128_S1x128_0_0).toLoadRect (harg4.unread x3) = x3 from (View.readAt_full _ _ _).trans (harg4.read_unread _)]); (try rw [show View.readAt (Elt F) arg5.view (Rect.unit ![0, 0] ![1, 128] inb_S1x128_S1x128_0_0).toLoadRect (harg5.unread x4) = x4 from (View.readAt_full _ _ _).trans (harg5.read_unread _)]); (try rw [show View.readAt (Elt F) arg6.view (Rect.unit ![0, 0] ![1, 128] inb_S1x128_S1x128_0_0).toLoadRect (harg6.unread x5) = x5 from (View.readAt_full _ _ _).trans (harg6.read_unread _)]); (try rw [show View.readAt (Elt F) arg7.view (Rect.unit ![0, 0] ![128, 128] inb_S128x128_S128x128_0_0).toLoadRect (harg7.unread x6) = x6 from (View.readAt_full _ _ _).trans (harg7.read_unread _)]); (try rw [show View.readAt (Elt F) arg11.view (Rect.unit ![0, 0] ![10000, 128] inb_S10000x128_S10000x128_0_0).toLoadRect (harg11.unread S) = S from (View.readAt_full _ _ _).trans (harg11.read_unread _)])
  iexists _; isplitr
  · ipureintro; exact harg11.read_unread _
  iexact HS0

end Cert.KernelIdeal.Net

end
-- ==== Proof.Region0I.lean ====
/- The first call's pipeline over any entry contents: its proof data and its body obligation. -/
module

public import proofs.«01_k».proof.Proof.Body0I
public import proofs.«01_k».proof.Proof.Gen.KernelIdeal.Launch
public import Idealize.ShloMosaic.Lib.Pipeline.Frame
public import Idealize.ShloMosaic.Lib.Pipeline.ValueKit
public import Idealize.ShloMosaic.Lib.Pipeline.RegionArraysS

@[expose] public section

set_option maxRecDepth 16384

noncomputable section

namespace Cert.KernelIdeal.Net

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf Seg HostSeg RegionSeg)
open Cert.KernelIdeal.Gen

variable {F : FTy → Type} [FloatOps F] [Named F]

local notation "𝕄" => MT nD τ sig Unit (Elt F) ℕ (UR sig nD τ) ℕ

/-- A TensorCore buffer of core `c`, whole, at some contents. -/
abbrev anyBuf (c : Dev nD) (r : Ref sig .tc) : sProp 𝕄 := iprop(∃ f : Buf (Elt F) ((c : Thread nD τ).loc r), ((c : Thread nD τ).loc r) ↦{fullShare} f)

/-- The first call's carried scratch, as a memref. -/
abbrev scr0 : Memref sig .tc .vmem S10000x128 .bf16 := Memref.whole cc0_scratch0

/-- The scoped buffers the first call does not touch. -/
abbrev rest0 (c : Dev nD) : sProp 𝕄 := iprop(anyBuf (F := F) c cc1_stg0_0 ∗ anyBuf (F := F) c cc1_stg0_1 ∗ anyBuf (F := F) c cc1_stg1_0 ∗ anyBuf (F := F) c cc1_stg2_0 ∗ anyBuf (F := F) c cc1_stg2_1 ∗ anyBuf (F := F) c cc1_stg3_0 ∗ anyBuf (F := F) c cc1_stg3_1 ∗ anyBuf (F := F) c cc1_stg4_0 ∗ anyBuf (F := F) c cc1_stg4_1 ∗ anyBuf (F := F) c cc1_stg5_0 ∗ anyBuf (F := F) c cc1_stg5_1 ∗ anyBuf (F := F) c cc1_stg6_0 ∗ anyBuf (F := F) c cc1_stg6_1 ∗ anyBuf (F := F) c cc1_stg7_0 ∗ anyBuf (F := F) c cc1_stg7_1 ∗ anyBuf (F := F) c cc1_stg8_0 ∗ anyBuf (F := F) c cc1_stg8_1 ∗ anyBuf (F := F) c cc1_scratch0 ∗ anyBuf (F := F) c cc1_scratch1 ∗ anyBuf (F := F) c cc1_scratch2)

variable (V : Valuation τ sig (Elt F))

/-- The block of window `w` at point `t` of the first call, of the array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V (Proc.devRef .tc (Pipeline.arrRef spec0 w)))

/-- What the first call's scratch holds from its first point on: the first support. -/
def sup0 (V : Valuation τ sig (Elt F)) : Vec F S10000x128 .bf16 :=
  k0_pay3 (V main_arg0 : Vec F S10000x128 .f32) (V main_arg2 : Vec F S128x128 .f32)

/-- The adjacency block the first call stores at point `t`. -/
def out0_7 (c : Dev nD) (t : Fin cfg0.N) : Vec F S400x10000 .fp8e4m3 := adjOut (iblk0 V c 0 t)
/-- The hidden rows the first call stores at point `t`. -/
def out0_8 (c : Dev nD) (t : Fin cfg0.N) : Vec F S400x128 .f32 := hidOut (iblk0 V c 0 t) (sup0 V) (iblk0 V c 3 t) (iblk0 V c 4 t) (iblk0 V c 5 t)
/-- The rows of the next support the first call stores at point `t`. -/
def out0_9 (c : Dev nD) (t : Fin cfg0.N) : Vec F S400x256 .fp8e4m3 := supOut (iblk0 V c 0 t) (sup0 V) (iblk0 V c 3 t) (iblk0 V c 4 t) (iblk0 V c 5 t) (iblk0 V c 6 t)

/-- The first call's invariant before point `n`: its scratch, holding the first support once a point has run; the scoped buffers it does
    not touch; the generator register. -/
def Phi0 (c : Dev nD) (n : ℕ) : sProp 𝕄 :=
  iprop((∃ d, ⌜n ≠ 0 → d = sup0 V⌝ ∗ owns (c : Thread nD τ) scr0 fullShare d) ∗ rest0 c ∗ (∃ r, prngReg c r))

/-- The first call's proof data, entered at the valuation `V`. -/
def dat0 (c : Dev nD) : Dat τ (Elt F) Unit ℕ (UR sig nD τ) ℕ cfg0 c where
  A w := V (Proc.devRef .tc (Pipeline.arrRef spec0 w))
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 V c t
    | ⟨8, _⟩ => out0_8 V c t
    | ⟨9, _⟩ => out0_9 V c t
  Φ t := Phi0 V c t.val
  q _ := fullShare
  owed _ := 0

/-- A window's array as the call finds it. -/
theorem dat0_A (c : Dev nD) (w : Fin cfg0.W) : (dat0 V c).A w = V (Proc.devRef .tc (Pipeline.arrRef spec0 w)) := by
  dsimp only [dat0]
/-- An input block is left as it was. -/
theorem after0_0 (c : Dev nD) (t : Fin cfg0.N) : (dat0 V c).after 0 t = iblk0 V c 0 t := by dsimp only [dat0]
/-- An input block is left as it was. -/
theorem after0_1 (c : Dev nD) (t : Fin cfg0.N) : (dat0 V c).after 1 t = iblk0 V c 1 t := by dsimp only [dat0]
/-- An input block is left as it was. -/
theorem after0_2 (c : Dev nD) (t : Fin cfg0.N) : (dat0 V c).after 2 t = iblk0 V c 2 t := by dsimp only [dat0]
/-- An input block is left as it was. -/
theorem after0_3 (c : Dev nD) (t : Fin cfg0.N) : (dat0 V c).after 3 t = iblk0 V c 3 t := by dsimp only [dat0]
/-- An input block is left as it was. -/
theorem after0_4 (c : Dev nD) (t : Fin cfg0.N) : (dat0 V c).after 4 t = iblk0 V c 4 t := by dsimp only [dat0]
/-- An input block is left as it was. -/
theorem after0_5 (c : Dev nD) (t : Fin cfg0.N) : (dat0 V c).after 5 t = iblk0 V c 5 t := by dsimp only [dat0]
/-- An input block is left as it was. -/
theorem after0_6 (c : Dev nD) (t : Fin cfg0.N) : (dat0 V c).after 6 t = iblk0 V c 6 t := by dsimp only [dat0]
/-- The point's block of the adjacency, as written. -/
theorem after0_7 (c : Dev nD) (t : Fin cfg0.N) : (dat0 V c).after 7 t = out0_7 V c t := by dsimp only [dat0]
/-- The point's hidden rows, as written. -/
theorem after0_8 (c : Dev nD) (t : Fin cfg0.N) : (dat0 V c).after 8 t = out0_8 V c t := by dsimp only [dat0]
/-- The point's split support, as written. -/
theorem after0_9 (c : Dev nD) (t : Fin cfg0.N) : (dat0 V c).after 9 t = out0_9 V c t := by dsimp only [dat0]
/-- Window 0's buffer holds its block at every point. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [dat0_A]; try rfl) t d).trans
    (by unfold Dat.fetched Dat.blockOf iblk0; rw [dat0_A]; try rfl)
/-- Window 1's buffer holds its block at every point. -/
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [dat0_A]; try rfl) t d).trans
    (by unfold Dat.fetched Dat.blockOf iblk0; rw [dat0_A]; try rfl)
/-- Window 2's buffer holds its block at every point. -/
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [dat0_A]; try rfl) t d).trans
    (by unfold Dat.fetched Dat.blockOf iblk0; rw [dat0_A]; try rfl)
/-- Window 3's buffer holds its block at every point. -/
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [dat0_A]; try rfl) t d).trans
    (by unfold Dat.fetched Dat.blockOf iblk0; rw [dat0_A]; try rfl)
/-- Window 4's buffer holds its block at every point. -/
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [dat0_A]; try rfl) t d).trans
    (by unfold Dat.fetched Dat.blockOf iblk0; rw [dat0_A]; try rfl)
/-- Window 5's buffer holds its block at every point. -/
theorem before0_5 (c : Dev nD) (t : Fin cfg0.N) (d) : (dat0 V c).before 5 t d = iblk0 V c 5 t :=
  ((dat0 V c).before_in_eq_fetched 5 rfl (fun _ => rfl) (fun _ _ _ => rfl) (fun t => by rw [after0_5]; unfold Dat.blockOf iblk0; rw [dat0_A]; try rfl) t d).trans
    (by unfold Dat.fetched Dat.blockOf iblk0; rw [dat0_A]; try rfl)
/-- Window 6's buffer holds its block at every point. -/
theorem before0_6 (c : Dev nD) (t : Fin cfg0.N) (d) : (dat0 V c).before 6 t d = iblk0 V c 6 t :=
  ((dat0 V c).before_in_eq_fetched 6 rfl (fun _ => rfl) (fun _ _ _ => rfl) (fun t => by rw [after0_6]; unfold Dat.blockOf iblk0; rw [dat0_A]; try rfl) t d).trans
    (by unfold Dat.fetched Dat.blockOf iblk0; rw [dat0_A]; try rfl)
/-- This window stays at the whole array. -/
theorem index0_1 : ∀ t : Fin cfg0.N, win0_1.index t = ![0, 0] := (by decide +kernel : ∀ t : Fin grid0.N, win0_1.index t = ![0, 0])
/-- Window 1's block is its whole array. -/
theorem iblk0_1 (c : Dev nD) (t : Fin cfg0.N) : iblk0 V c 1 t = V main_arg0 := by
  funext y
  blk_simp [iblk0]
  exact congrArg (V main_arg0) (by blk_ext [index0_1])
/-- This window stays at the whole array. -/
theorem index0_2 : ∀ t : Fin cfg0.N, win0_2.index t = ![0, 0] := (by decide +kernel : ∀ t : Fin grid0.N, win0_2.index t = ![0, 0])
/-- Window 2's block is its whole array. -/
theorem iblk0_2 (c : Dev nD) (t : Fin cfg0.N) : iblk0 V c 2 t = V main_arg2 := by
  funext y
  blk_simp [iblk0]
  exact congrArg (V main_arg2) (by blk_ext [index0_2])
/-- This window stays at the whole array. -/
theorem index0_3 : ∀ t : Fin cfg0.N, win0_3.index t = ![0, 0] := (by decide +kernel : ∀ t : Fin grid0.N, win0_3.index t = ![0, 0])
/-- Window 3's block is its whole array. -/
theorem iblk0_3 (c : Dev nD) (t : Fin cfg0.N) : iblk0 V c 3 t = V main_v0 := by
  funext y
  blk_simp [iblk0]
  exact congrArg (V main_v0) (by blk_ext [index0_3])
/-- This window stays at the whole array. -/
theorem index0_4 : ∀ t : Fin cfg0.N, win0_4.index t = ![0, 0] := (by decide +kernel : ∀ t : Fin grid0.N, win0_4.index t = ![0, 0])
/-- Window 4's block is its whole array. -/
theorem iblk0_4 (c : Dev nD) (t : Fin cfg0.N) : iblk0 V c 4 t = V main_v1 := by
  funext y
  blk_simp [iblk0]
  exact congrArg (V main_v1) (by blk_ext [index0_4])
/-- This window stays at the whole array. -/
theorem index0_5 : ∀ t : Fin cfg0.N, win0_5.index t = ![0, 0] := (by decide +kernel : ∀ t : Fin grid0.N, win0_5.index t = ![0, 0])
/-- Window 5's block is its whole array. -/
theorem iblk0_5 (c : Dev nD) (t : Fin cfg0.N) : iblk0 V c 5 t = V main_v2 := by
  funext y
  blk_simp [iblk0]
  exact congrArg (V main_v2) (by blk_ext [index0_5])
/-- This window stays at the whole array. -/
theorem index0_6 : ∀ t : Fin cfg0.N, win0_6.index t = ![0, 0] := (by decide +kernel : ∀ t : Fin grid0.N, win0_6.index t = ![0, 0])
/-- Window 6's block is its whole array. -/
theorem iblk0_6 (c : Dev nD) (t : Fin cfg0.N) : iblk0 V c 6 t = V main_arg4 := by
  funext y
  blk_simp [iblk0]
  exact congrArg (V main_arg4) (by blk_ext [index0_6])

/-- The branch of the first call's body is taken at its first point only. -/
theorem hcond0 : ∀ t : Fin cfg0.N, cond0 (grid0.coords t) ↔ t.val = 0 :=
  (fun t => by
    have ht : t.val < 25 := Nat.lt_of_lt_of_eq t.isLt N_0
    have e0 : (grid0.coords t 0).val = t.val / 1 % 25 := Pipeline.Grid.coords_val t 0 (by decide) rfl
    simp only [cond0, e0]
    word_cmp
   : ∀ t : Fin grid0.N, cond0 (grid0.coords t) ↔ t.val = 0)

/-- What the first call's body is given at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it gives back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 3200000 in
/-- The first call's body at any point, from the invariant and its windows' blocks. -/
theorem sound0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl,
    after0_0, after0_1, after0_2, after0_3, after0_4, after0_5, after0_6, after0_7, after0_8, after0_9]
  rw [show (dat0 V c).Φ t.castSucc = Phi0 V c t.val from rfl, show (dat0 V c).Φ t.succ = Phi0 V c (t.val + 1) from rfl]
  unfold Phi0
  iintro ⟨⟨⟨%ds, %hs, HS⟩, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  by_cases hz : t.val = 0
  · iapply (body0_first c (grid0.coords t) _ _ _ _ _ _ _ _ _ _ _ _ _ _ _ _ _ _ _ _ _ _ ((hcond0 t).mpr hz) (iblk0 V c 0 t) (iblk0 V c 1 t) (iblk0 V c 2 t) (iblk0 V c 3 t) (iblk0 V c 4 t) (iblk0 V c 5 t) (iblk0 V c 6 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS]; · iexists _; iexact HS
    iintro ⟨H0, H1, H2, H3, H4, H5, H6, H7, H8, H9, HS⟩
    isplitl [HS HR Hg]
    · isplitl [HS]
      · iexists _; isplitr; swap; · iexact HS
        ipureintro; intro _; (try rw [iblk0_1, iblk0_2]); rfl
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    have hS : k0_pay3 (iblk0 V c 1 t) (iblk0 V c 2 t) = sup0 V := by rw [iblk0_1, iblk0_2]; rfl
    isplitl [H8]
    · rw [show out0_8 V c t = hidOut (iblk0 V c 0 t) (k0_pay3 (iblk0 V c 1 t) (iblk0 V c 2 t)) (iblk0 V c 3 t) (iblk0 V c 4 t) (iblk0 V c 5 t) from by rw [hS]; rfl]
      iexact H8
    rw [show out0_9 V c t = supOut (iblk0 V c 0 t) (k0_pay3 (iblk0 V c 1 t) (iblk0 V c 2 t)) (iblk0 V c 3 t) (iblk0 V c 4 t) (iblk0 V c 5 t) (iblk0 V c 6 t) from by rw [hS]; rfl]
    iexact H9
  · obtain rfl := hs hz
    iapply (body0_rest c (grid0.coords t) _ _ _ _ _ _ _ _ _ _ _ _ _ _ _ _ _ _ _ _ _ _ (fun h => hz ((hcond0 t).mp h)) (sup0 V) (iblk0 V c 0 t) (iblk0 V c 1 t) (iblk0 V c 2 t) (iblk0 V c 3 t) (iblk0 V c 4 t) (iblk0 V c 5 t) (iblk0 V c 6 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS]; · iexact HS
    iintro ⟨H0, H1, H2, H3, H4, H5, H6, H7, H8, H9, HS⟩
    isplitl [HS HR Hg]
    · isplitl [HS]
      · iexists _; isplitr; swap; · iexact HS
        ipureintro; intro _; (try rw [iblk0_1, iblk0_2]); rfl
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The body table's row at point `t`'s slots is the body as `bodyAt0` spells it. -/
theorem row0 (t : Fin cfg0.N) : defs₀ (F := F) .tc cfg0.body (cfg0.bodyArgs t (cfg0.slots t)) = bodyAt0 t := by
  unfold defs₀; rw [Defs.onTc_tc]

/-- The first call's body meets its proof data at every point. -/
theorem obligation0 (c : Dev nD) : BodyObligation (dat0 V c) (defs₀ (F := F)) Variants.none () Set.univ := fun t => by
  rw [bigSep_W0, bigSep_W0, row0]
  exact triple_restated (sound0 V c t) rfl .rfl fun _ => .rfl

/-- The scoped buffers at anything and the generator register give the invariant before the first point. -/
theorem hin0 (c : Dev nD) : iprop(Pipeline.scopedRest (Ix := Unit) (Name := ℕ) (U := UR sig nD τ) (Lvl := ℕ) (Val := Elt F) spec0 c ∗ (∃ r, prngReg c r)) ⊢ (dat0 V c).Φ 0 := by
  rw [show (dat0 V c).Φ 0 = Phi0 V c 0 from rfl, scopedRest0_eq]
  unfold Phi0
  iintro ⟨⟨⟨%f, HS⟩, HR⟩, Hg⟩
  isplitl [HS]
  · iexists f; isplitr
    · ipureintro; intro h; exact absurd rfl h
    rw [owns_whole]; iexact HS
  isplitl [HR]; · iexact HR
  iexact Hg

/-- The invariant after the last point gives them back. -/
theorem hout0 (c : Dev nD) : (dat0 V c).Φ (Fin.last cfg0.N) ⊢ iprop(Pipeline.scopedRest (Ix := Unit) (Name := ℕ) (U := UR sig nD τ) (Lvl := ℕ) (Val := Elt F) spec0 c ∗ (∃ r, prngReg c r)) := by
  rw [show (dat0 V c).Φ (Fin.last cfg0.N) = Phi0 V c cfg0.N from rfl, scopedRest0_eq]
  unfold Phi0
  iintro ⟨⟨%d, %hd, HS⟩, HR, Hg⟩
  isplitl [HS HR]
  · isplitl [HS]
    · iexists d; rw [owns_whole]; first | iexact HS | exact BI.Entails.refl _
    iexact HR
  iexact Hg

end Cert.KernelIdeal.Net

end
-- ==== Proof.Region1I.lean ====
/- The second call's pipeline over any entry contents: its proof data and its body obligation. -/
module

public import proofs.«01_k».proof.Proof.Body1I
public import proofs.«01_k».proof.Proof.Region0I
public import Idealize.ShloMosaic.Lib.Pointwise

@[expose] public section

set_option maxRecDepth 16384

noncomputable section

namespace Cert.KernelIdeal.Net

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf Seg HostSeg RegionSeg)
open Cert.KernelIdeal.Gen

variable {F : FTy → Type} [FloatOps F] [Named F]

local notation "𝕄" => MT nD τ sig Unit (Elt F) ℕ (UR sig nD τ) ℕ

/-! ## Arrays put together from blocks of rows -/

/-- The array of 10000 rows whose block of 1000 rows number `i` is `f i`. -/
def byRows {α : Type} {m : ℕ} (f : Fin 10 → (⟨2, ![1000, m]⟩ : Shape).Idx → α) : (⟨2, ![10000, m]⟩ : Shape).Idx → α :=
  fun y => f ⟨(y 0).val / 1000, by have : (y 0).val < 10000 := (y 0).isLt; omega⟩ (ix2 ⟨(y 0).val % 1000, Nat.mod_lt _ (by decide)⟩ (y 1))

/-- An array put together from ten blocks, at one row of one block. -/
theorem byRows_at {α : Type} {m : ℕ} (f : Fin 10 → (⟨2, ![1000, m]⟩ : Shape).Idx → α) (i : Fin 10) (a : Fin 1000) (b : Fin m) (h : i.val * 1000 + a.val < 10000) :
    byRows f (ix2 ⟨i.val * 1000 + a.val, h⟩ b) = f i (ix2 a b) := by
  have e1 : (⟨(i.val * 1000 + a.val) / 1000, by have := i.isLt; have := a.isLt; omega⟩ : Fin 10) = i := Fin.ext (by have := i.isLt; have := a.isLt; dsimp only; omega)
  have e2 : (⟨(i.val * 1000 + a.val) % 1000, Nat.mod_lt _ (by decide)⟩ : Fin 1000) = a := Fin.ext (by have := i.isLt; have := a.isLt; dsimp only; omega)
  show f ⟨(i.val * 1000 + a.val) / 1000, _⟩ (ix2 ⟨(i.val * 1000 + a.val) % 1000, _⟩ b) = _
  rw [e1, e2]

/-- The window of 1000 rows at row `1000 i` of such an array is block `i`. -/
theorem window_byRows {α : Type} {m : ℕ} (f : Fin 10 → (⟨2, ![1000, m]⟩ : Shape).Idx → α) (i : Fin 10) (off : Fin 2 → ℕ) (hoff : off = ![i.val * 1000, 0])
    (inb : ∀ a : Fin 2, off a + (![1000, m] : Fin 2 → ℕ) a ≤ (![10000, m] : Fin 2 → ℕ) a) :
    VecWindow.window (s := ⟨2, ![10000, m]⟩) (byRows f) off ![1000, m] inb = f i := by
  subst hoff
  funext y
  have h0 : (y 0).val < 1000 := (y 0).isLt
  have hi := i.isLt
  rw [eq_ix2 y, ← byRows_at f i (y 0) (y 1) (by omega)]
  refine congrArg (byRows f) (funext fun a => ?_)
  fin_cases a
  · exact Fin.ext (by show i.val * 1000 + 1 * (y 0).val = _; rw [Nat.one_mul]; rfl)
  · exact Fin.ext (by show 0 + 1 * (y 1).val = _; rw [Nat.one_mul, Nat.zero_add]; rfl)

/-- An array that agrees with such an array up to row `1000 i` agrees with it up to row `1000 (i + 1)` once block `i` is put there. -/
theorem put_byRows {α : Type} {m : ℕ} (f : Fin 10 → (⟨2, ![1000, m]⟩ : Shape).Idx → α) (i : Fin 10) (off : Fin 2 → ℕ) (hoff : off = ![i.val * 1000, 0])
    (x : (⟨2, ![10000, m]⟩ : Shape).Idx → α) (hx : ∀ y, (y 0).val < i.val * 1000 → x y = byRows f y) :
    ∀ y, (y 0).val < i.val * 1000 + 1000 → VecWindow.put (s := ⟨2, ![10000, m]⟩) x off ![1000, m] (f i) y = byRows f y := by
  subst hoff
  intro y hy
  have h1 : (y 1).val < m := (y 1).isLt
  by_cases h : (y 0).val < i.val * 1000
  · unfold VecWindow.put
    rw [dif_neg]
    · exact hx y h
    · intro hh; have := (hh 0).1; simp only [Matrix.cons_val_zero] at this; omega
  · have hh : ∀ a : Fin 2, (![i.val * 1000, 0] : Fin 2 → ℕ) a ≤ (y a).val ∧ (y a).val < (![i.val * 1000, 0] : Fin 2 → ℕ) a + (![1000, m] : Fin 2 → ℕ) a := by
      intro a; fin_cases a
      · exact ⟨Nat.le_of_not_lt h, hy⟩
      · exact ⟨Nat.zero_le _, by show (y 1).val < 0 + m; omega⟩
    unfold VecWindow.put
    rw [dif_pos hh]
    have hlt : i.val * 1000 + ((y 0).val - i.val * 1000) < 10000 := by have : (y 0).val < 10000 := (y 0).isLt; omega
    have e := byRows_at f i ⟨(y 0).val - i.val * 1000, by omega⟩ (y 1) hlt
    have e0 : y = ix2 ⟨i.val * 1000 + ((y 0).val - i.val * 1000), hlt⟩ (y 1) := by
      refine (eq_ix2 y).trans (congrArg (fun a => ix2 a (y 1)) (Fin.ext ?_)); show (y 0).val = i.val * 1000 + ((y 0).val - i.val * 1000); omega
    refine Eq.trans ?_ (e.symm.trans (congrArg (byRows f) e0.symm))
    refine congrArg (f i) (funext fun a => ?_)
    fin_cases a
    · exact Fin.ext rfl
    · exact Fin.ext (by show (y 1).val - 0 = (y 1).val; omega)

/-! ## The second call -/

/-- The first pass's split support. -/
abbrev scr1 : Memref sig .tc .vmem S10000x256 .fp8e4m3 := Memref.whole cc1_scratch0
/-- The second pass's split support. -/
abbrev scr2 : Memref sig .tc .vmem S10000x256 .fp8e4m3 := Memref.whole cc1_scratch1
/-- The first pass's hidden rows. -/
abbrev scr3 : Memref sig .tc .vmem S10000x128 .f32 := Memref.whole cc1_scratch2

/-- The scoped buffers the second call does not touch. -/
abbrev rest1 (c : Dev nD) : sProp 𝕄 := iprop(anyBuf (F := F) c cc0_stg0_0 ∗ anyBuf (F := F) c cc0_stg0_1 ∗ anyBuf (F := F) c cc0_stg1_0 ∗ anyBuf (F := F) c cc0_stg2_0 ∗ anyBuf (F := F) c cc0_stg3_0 ∗ anyBuf (F := F) c cc0_stg4_0 ∗ anyBuf (F := F) c cc0_stg5_0 ∗ anyBuf (F := F) c cc0_stg6_0 ∗ anyBuf (F := F) c cc0_stg7_0 ∗ anyBuf (F := F) c cc0_stg7_1 ∗ anyBuf (F := F) c cc0_stg8_0 ∗ anyBuf (F := F) c cc0_stg8_1 ∗ anyBuf (F := F) c cc0_stg9_0 ∗ anyBuf (F := F) c cc0_stg9_1 ∗ anyBuf (F := F) c cc0_scratch0)

variable (V : Valuation τ sig (Elt F))

/-- The block of window `w` at point `t` of the second call, of the array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V (Proc.devRef .tc (Pipeline.arrRef spec1 w)))

/-- Point `i` of pass `l`. -/
def pt (l : Fin 3) (i : Fin 10) : Fin cfg1.N := ⟨10 * l.val + i.val, by rw [show cfg1.N = 30 from N_1]; have := l.isLt; have := i.isLt; omega⟩

/-- The hidden rows point `i` of the first pass stores. -/
def hidB (c : Dev nD) (i : Fin 10) : Vec F S1000x128 .f32 :=
  midHid (iblk1 V c 4 (pt 0 i)) (iblk1 V c 5 (pt 0 i)) (iblk1 V c 6 (pt 0 i)) (iblk1 V c 0 (pt 0 i)) (iblk1 V c 1 (pt 0 i)) (iblk1 V c 2 (pt 0 i))
/-- The rows of the next support point `i` of the first pass stores. -/
def supB (c : Dev nD) (i : Fin 10) : Vec F S1000x256 .fp8e4m3 :=
  midSup (iblk1 V c 4 (pt 0 i)) (iblk1 V c 5 (pt 0 i)) (iblk1 V c 6 (pt 0 i)) (iblk1 V c 7 (pt 0 i)) (iblk1 V c 0 (pt 0 i)) (iblk1 V c 1 (pt 0 i)) (iblk1 V c 2 (pt 0 i))
/-- The first support scratch once the first pass is done. -/
def supAll (c : Dev nD) : Vec F S10000x256 .fp8e4m3 := byRows (supB V c)
/-- The rows of the next support point `i` of the second pass stores. -/
def sup2B (c : Dev nD) (i : Fin 10) : Vec F S1000x256 .fp8e4m3 :=
  midSup2 (iblk1 V c 4 (pt 1 i)) (iblk1 V c 5 (pt 1 i)) (iblk1 V c 6 (pt 1 i)) (iblk1 V c 7 (pt 1 i)) (iblk1 V c 0 (pt 1 i)) (supAll V c) (hidB V c i)
/-- The second support scratch once the second pass is done. -/
def sup2All (c : Dev nD) : Vec F S10000x256 .fp8e4m3 := byRows (sup2B V c)
/-- The output rows a point of the last pass stores. -/
def outB (c : Dev nD) (t : Fin cfg1.N) : Vec F S1000x128 .f32 :=
  k1_pay7 (iblk1 V c 4 t) (iblk1 V c 5 t) (iblk1 V c 6 t) (iblk1 V c 0 t) (sup2All V c) (iblk1 V c 3 t)

/-- What the scratches are known to hold before point `n`. -/
def Known (c : Dev nD) (n : ℕ) (d1 : Vec F S10000x256 .fp8e4m3) (d2 : Vec F S10000x256 .fp8e4m3) (d3 : Vec F S10000x128 .f32) : Prop :=
  (∀ y : (⟨2, ![10000, 256]⟩ : Shape).Idx, (y 0).val < 1000 * n → d1 y = supAll V c y)
    ∧ (∀ y : (⟨2, ![10000, 256]⟩ : Shape).Idx, (y 0).val + 10000 < 1000 * n → d2 y = sup2All V c y)
    ∧ (∀ y : (⟨2, ![10000, 128]⟩ : Shape).Idx, (y 0).val < 1000 * n → d3 y = byRows (hidB V c) y)

/-- The second call's invariant before point `n`. -/
def Phi1 (c : Dev nD) (n : ℕ) : sProp 𝕄 :=
  iprop((∃ d1 d2 d3, ⌜Known V c n d1 d2 d3⌝ ∗ owns (c : Thread nD τ) scr1 fullShare d1 ∗ owns (c : Thread nD τ) scr2 fullShare d2 ∗ owns (c : Thread nD τ) scr3 fullShare d3)
    ∗ rest1 c ∗ (∃ r, prngReg c r))

/-- The second call's proof data, entered at the valuation `V`. -/
def dat1 (c : Dev nD) : Dat τ (Elt F) Unit ℕ (UR sig nD τ) ℕ cfg1 c where
  A w := V (Proc.devRef .tc (Pipeline.arrRef spec1 w))
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => outB V c t
  Φ t := Phi1 V c t.val
  q _ := fullShare
  owed _ := 0

/-- A window's array as the call finds it. -/
theorem dat1_A (c : Dev nD) (w : Fin cfg1.W) : (dat1 V c).A w = V (Proc.devRef .tc (Pipeline.arrRef spec1 w)) := by
  dsimp only [dat1]
/-- An input block is left as it was. -/
theorem after1_0 (c : Dev nD) (t : Fin cfg1.N) : (dat1 V c).after 0 t = iblk1 V c 0 t := by dsimp only [dat1]
/-- An input block is left as it was. -/
theorem after1_1 (c : Dev nD) (t : Fin cfg1.N) : (dat1 V c).after 1 t = iblk1 V c 1 t := by dsimp only [dat1]
/-- An input block is left as it was. -/
theorem after1_2 (c : Dev nD) (t : Fin cfg1.N) : (dat1 V c).after 2 t = iblk1 V c 2 t := by dsimp only [dat1]
/-- An input block is left as it was. -/
theorem after1_3 (c : Dev nD) (t : Fin cfg1.N) : (dat1 V c).after 3 t = iblk1 V c 3 t := by dsimp only [dat1]
/-- An input block is left as it was. -/
theorem after1_4 (c : Dev nD) (t : Fin cfg1.N) : (dat1 V c).after 4 t = iblk1 V c 4 t := by dsimp only [dat1]
/-- An input block is left as it was. -/
theorem after1_5 (c : Dev nD) (t : Fin cfg1.N) : (dat1 V c).after 5 t = iblk1 V c 5 t := by dsimp only [dat1]
/-- An input block is left as it was. -/
theorem after1_6 (c : Dev nD) (t : Fin cfg1.N) : (dat1 V c).after 6 t = iblk1 V c 6 t := by dsimp only [dat1]
/-- An input block is left as it was. -/
theorem after1_7 (c : Dev nD) (t : Fin cfg1.N) : (dat1 V c).after 7 t = iblk1 V c 7 t := by dsimp only [dat1]
/-- The block of the result at the point. -/
theorem after1_8 (c : Dev nD) (t : Fin cfg1.N) : (dat1 V c).after 8 t = outB V c t := by dsimp only [dat1]
/-- Window 0's buffer holds its block at every point. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [dat1_A]; try rfl) t d).trans
    (by unfold Dat.fetched Dat.blockOf iblk1; rw [dat1_A]; try rfl)
/-- Window 1's buffer holds its block at every point. -/
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [dat1_A]; try rfl) t d).trans
    (by unfold Dat.fetched Dat.blockOf iblk1; rw [dat1_A]; try rfl)
/-- Window 2's buffer holds its block at every point. -/
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [dat1_A]; try rfl) t d).trans
    (by unfold Dat.fetched Dat.blockOf iblk1; rw [dat1_A]; try rfl)
/-- Window 3's buffer holds its block at every point. -/
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [dat1_A]; try rfl) t d).trans
    (by unfold Dat.fetched Dat.blockOf iblk1; rw [dat1_A]; try rfl)
/-- Window 4's buffer holds its block at every point. -/
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [dat1_A]; try rfl) t d).trans
    (by unfold Dat.fetched Dat.blockOf iblk1; rw [dat1_A]; try rfl)
/-- Window 5's buffer holds its block at every point. -/
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [dat1_A]; try rfl) t d).trans
    (by unfold Dat.fetched Dat.blockOf iblk1; rw [dat1_A]; try rfl)
/-- Window 6's buffer holds its block at every point. -/
theorem before1_6 (c : Dev nD) (t : Fin cfg1.N) (d) : (dat1 V c).before 6 t d = iblk1 V c 6 t :=
  ((dat1 V c).before_in_eq_fetched 6 rfl (fun _ => rfl) (fun _ _ _ => rfl) (fun t => by rw [after1_6]; unfold Dat.blockOf iblk1; rw [dat1_A]; try rfl) t d).trans
    (by unfold Dat.fetched Dat.blockOf iblk1; rw [dat1_A]; try rfl)
/-- Window 7's buffer holds its block at every point. -/
theorem before1_7 (c : Dev nD) (t : Fin cfg1.N) (d) : (dat1 V c).before 7 t d = iblk1 V c 7 t :=
  ((dat1 V c).before_in_eq_fetched 7 rfl (fun _ => rfl) (fun _ _ _ => rfl) (fun t => by rw [after1_7]; unfold Dat.blockOf iblk1; rw [dat1_A]; try rfl) t d).trans
    (by unfold Dat.fetched Dat.blockOf iblk1; rw [dat1_A]; try rfl)
/-- Which points the body's branch 1 runs at. -/
theorem hcond1_1 : ∀ t : Fin cfg1.N, k1_cond1 (grid1.coords t) = 1#1 ↔ 0 ≤ t.val ∧ t.val < 10 :=
  (by decide +kernel : ∀ t : Fin grid1.N, k1_cond1 (grid1.coords t) = 1#1 ↔ 0 ≤ t.val ∧ t.val < 10)
/-- Which points the body's branch 2 runs at. -/
theorem hcond1_2 : ∀ t : Fin cfg1.N, k1_cond2 (grid1.coords t) = 1#1 ↔ 10 ≤ t.val ∧ t.val < 20 :=
  (by decide +kernel : ∀ t : Fin grid1.N, k1_cond2 (grid1.coords t) = 1#1 ↔ 10 ≤ t.val ∧ t.val < 20)
/-- Which points the body's branch 3 runs at. -/
theorem hcond1_3 : ∀ t : Fin cfg1.N, k1_cond3 (grid1.coords t) = 1#1 ↔ 20 ≤ t.val ∧ t.val < 30 :=
  (by decide +kernel : ∀ t : Fin grid1.N, k1_cond3 (grid1.coords t) = 1#1 ↔ 20 ≤ t.val ∧ t.val < 30)
/-- Where a point reads or writes its rows of the scratch. -/
theorem hoff1 : ∀ t : Fin cfg1.N, k1_off1 (grid1.coords t) = ![t.val % 10 * 1000, 0] :=
  (by decide +kernel : ∀ t : Fin grid1.N, k1_off1 (grid1.coords t) = ![t.val % 10 * 1000, 0])
/-- Where a point reads or writes its rows of the scratch. -/
theorem hoff2 : ∀ t : Fin cfg1.N, k1_off2 (grid1.coords t) = ![t.val % 10 * 1000, 0] :=
  (by decide +kernel : ∀ t : Fin grid1.N, k1_off2 (grid1.coords t) = ![t.val % 10 * 1000, 0])
/-- Where a point reads or writes its rows of the scratch. -/
theorem hoff3 : ∀ t : Fin cfg1.N, k1_off3 (grid1.coords t) = ![t.val % 10 * 1000, 0] :=
  (by decide +kernel : ∀ t : Fin grid1.N, k1_off3 (grid1.coords t) = ![t.val % 10 * 1000, 0])
/-- Where a point reads or writes its rows of the scratch. -/
theorem hoff4 : ∀ t : Fin cfg1.N, k1_off4 (grid1.coords t) = ![t.val % 10 * 1000, 0] :=
  (by decide +kernel : ∀ t : Fin grid1.N, k1_off4 (grid1.coords t) = ![t.val % 10 * 1000, 0])
/-- The output window is idle before the last pass, -/
theorem hidle : ∀ t : Fin cfg1.N, idle1 8 (grid1.coords t) = decide (t.val < 20) :=
  (by decide +kernel : ∀ t : Fin grid1.N, idle1 8 (grid1.coords t) = decide (t.val < 20))
/-- and written back in it. -/
theorem hflush : ∀ t : Fin cfg1.N, (cfg1.win 8).flush t = decide (20 ≤ t.val) :=
  (by decide +kernel : ∀ t : Fin grid1.N, win1_8.flush t = decide (20 ≤ t.val))

/-- What the body leaves of the output window's buffer. -/
def left8 (c : Dev nD) (t : Fin cfg1.N) : sProp 𝕄 :=
  match cfg1.idle 8 (cfg1.grid.coords t) with
  | true =>
    match (cfg1.win 8).flush t with
    | false => iprop(∃ d, owns (c : Thread nD τ) ((cfg1.win 8).stage (cfg1.slots t 8)) fullShare ((dat1 V c).before 8 t d))
    | true => owns (c : Thread nD τ) ((cfg1.win 8).stage (cfg1.slots t 8)) fullShare ((dat1 V c).after 8 t)
  | false => owns (c : Thread nD τ) ((cfg1.win 8).stage (cfg1.slots t 8)) fullShare ((dat1 V c).after 8 t)

/-- Before the third pass the block of the result is not written. -/
theorem left8_idle (c : Dev nD) (t : Fin cfg1.N) (h : t.val < 20) :
    left8 V c t = iprop(∃ d, owns (c : Thread nD τ) (st1_8 t) fullShare ((dat1 V c).before 8 t d)) := by
  unfold left8
  rw [show cfg1.idle 8 (cfg1.grid.coords t) = true from (hidle t).trans (decide_eq_true h),
    show (cfg1.win 8).flush t = false from (hflush t).trans (decide_eq_false (by omega))]

/-- In the third pass the block of the result is written. -/
theorem left8_live (c : Dev nD) (t : Fin cfg1.N) (h : 20 ≤ t.val) :
    left8 V c t = owns (c : Thread nD τ) (st1_8 t) fullShare (outB V c t) := by
  unfold left8
  rw [show cfg1.idle 8 (cfg1.grid.coords t) = false from (hidle t).trans (decide_eq_false (by omega)), after1_8]

/-- What the second call's body is given at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it gives back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ left8 V c t)

/-- A first-pass point adds its rows to what is known. -/
theorem known_A (c : Dev nD) (i : Fin 10) (d1 : Vec F S10000x256 .fp8e4m3) (d2 : Vec F S10000x256 .fp8e4m3) (d3 : Vec F S10000x128 .f32) (h : Known V c i.val d1 d2 d3)
    (o1 o2 : Fin 2 → ℕ) (h1 : o1 = ![i.val * 1000, 0]) (h2 : o2 = ![i.val * 1000, 0]) :
    Known V c (i.val + 1) (VecWindow.put (s := S10000x256) d1 o2 S1000x256.size (supB V c i)) d2 (VecWindow.put (s := S10000x128) d3 o1 S1000x128.size (hidB V c i)) := by
  have hi := i.isLt
  obtain ⟨k1, k2, k3⟩ := h
  refine ⟨fun y hy => ?_, fun y hy => ?_, fun y hy => ?_⟩
  · exact put_byRows (supB V c) i o2 h2 d1 (fun y hy => k1 y (by omega)) y (by omega)
  · exfalso; have := (y 0).isLt; omega
  · exact put_byRows (hidB V c) i o1 h1 d3 (fun y hy => k3 y (by omega)) y (by omega)

/-- After the first pass its two scratches are known whole. -/
theorem known_B (c : Dev nD) (n : ℕ) (hn : 10 ≤ n) (d1 : Vec F S10000x256 .fp8e4m3) (d2 : Vec F S10000x256 .fp8e4m3) (d3 : Vec F S10000x128 .f32) (h : Known V c n d1 d2 d3) :
    d1 = supAll V c ∧ d3 = byRows (hidB V c) :=
  ⟨funext fun y => h.1 y (by have : (y 0).val < 10000 := (y 0).isLt; omega), funext fun y => h.2.2 y (by have : (y 0).val < 10000 := (y 0).isLt; omega)⟩

/-- A second-pass point adds its rows to what is known. -/
theorem known_B' (c : Dev nD) (i : Fin 10) (d2 : Vec F S10000x256 .fp8e4m3) (h : Known V c (10 + i.val) (supAll V c) d2 (byRows (hidB V c)))
    (o : Fin 2 → ℕ) (h1 : o = ![i.val * 1000, 0]) :
    Known V c (10 + i.val + 1) (supAll V c) (VecWindow.put (s := S10000x256) d2 o S1000x256.size (sup2B V c i)) (byRows (hidB V c)) := by
  refine ⟨fun y _ => rfl, fun y hy => ?_, fun y _ => rfl⟩
  exact put_byRows (sup2B V c) i o h1 d2 (fun y hy => h.2.1 y (by omega)) y (by omega)

/-- After the second pass its scratch is known whole, and stays so. -/
theorem known_C (c : Dev nD) (n : ℕ) (hn : 20 ≤ n) (d1 : Vec F S10000x256 .fp8e4m3) (d2 : Vec F S10000x256 .fp8e4m3) (d3 : Vec F S10000x128 .f32) (h : Known V c n d1 d2 d3) :
    d2 = sup2All V c ∧ Known V c (n + 1) d1 d2 d3 := by
  have b := known_B V c n (by omega) d1 d2 d3 h
  have e : d2 = sup2All V c := funext fun y => h.2.1 y (by have : (y 0).val < 10000 := (y 0).isLt; omega)
  exact ⟨e, fun y _ => congrFun b.1 y, fun y _ => congrFun e y, fun y _ => congrFun b.2 y⟩

set_option maxHeartbeats 3200000 in
/-- The body at a point of the first pass. -/
theorem sound1_A (c : Dev nD) (t : Fin cfg1.N) (h : t.val < 10) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).owesAt () t.succ = (dat1 V c).owesAt () t.castSucc from rfl,
    after1_0, after1_1, after1_2, after1_3, after1_4, after1_5, after1_6, after1_7]
  rw [show (dat1 V c).Φ t.castSucc = Phi1 V c t.val from rfl, show (dat1 V c).Φ t.succ = Phi1 V c (t.val + 1) from rfl]
  unfold Phi1
  iintro ⟨⟨⟨%d1, %d2, %d3, %hk, HS1, HS2, HS3⟩, HR, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩⟩
  have et : t = pt 0 ⟨t.val, h⟩ := Fin.ext (by show t.val = 10 * 0 + t.val; omega)
  have hk' := known_A V c ⟨t.val, h⟩ d1 d2 d3 hk (k1_off1 (grid1.coords t)) (k1_off2 (grid1.coords t))
    ((hoff1 t).trans (by rw [Nat.mod_eq_of_lt h])) ((hoff2 t).trans (by rw [Nat.mod_eq_of_lt h]))
  unfold supB hidB at hk'
  rw [← et] at hk'
  iapply (body1_A c (grid1.coords t) _ _ _ _ _ _ _ _ _ _ _ _ _ _ _ _ _ _ _ _ _ _ _ _ ((hcond1_1 t).mpr (by omega)) (fun h => by have := (hcond1_2 t).mp h; omega) (fun h => by have := (hcond1_3 t).mp h; omega) (iblk1 V c 0 t) (iblk1 V c 1 t) (iblk1 V c 2 t) (iblk1 V c 3 t) (iblk1 V c 4 t) (iblk1 V c 5 t) (iblk1 V c 6 t) (iblk1 V c 7 t) _ d1 d2 d3 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS1]; · iexact HS1
  isplitl [HS2]; · iexact HS2
  isplitl [HS3]; · iexact HS3
  iintro ⟨H0, H1, H2, H3, H4, H5, H6, H7, H8, HS1, HS2, HS3⟩
  isplitl [HS1 HS2 HS3 HR Hg]
  · isplitl [HS1 HS2 HS3]
    · iexists _, _, _; isplitr; · ipureintro; exact hk'
      isplitl [HS1]; · iexact HS1
      isplitl [HS2]; · iexact HS2
      iexact HS3
    isplitl [HR]; · iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  rw [left8_idle V c t (by omega)]; iexists e8; iexact H8

set_option maxHeartbeats 3200000 in
/-- The body at a point of the second pass. -/
theorem sound1_B (c : Dev nD) (t : Fin cfg1.N) (h : 10 ≤ t.val) (h' : t.val < 20) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).owesAt () t.succ = (dat1 V c).owesAt () t.castSucc from rfl,
    after1_0, after1_1, after1_2, after1_3, after1_4, after1_5, after1_6, after1_7]
  rw [show (dat1 V c).Φ t.castSucc = Phi1 V c t.val from rfl, show (dat1 V c).Φ t.succ = Phi1 V c (t.val + 1) from rfl]
  unfold Phi1
  iintro ⟨⟨⟨%d1, %d2, %d3, %hk, HS1, HS2, HS3⟩, HR, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩⟩
  obtain ⟨rfl, rfl⟩ := known_B V c t.val h d1 d2 d3 hk
  have hi : t.val - 10 < 10 := by omega
  have et : t = pt 1 ⟨t.val - 10, hi⟩ := Fin.ext (by show t.val = 10 * 1 + (t.val - 10); omega)
  have em : t.val % 10 = t.val - 10 := by omega
  have ev : t.val = 10 + (t.val - 10) := by omega
  have ho4 : k1_off4 (grid1.coords t) = ![(t.val - 10) * 1000, 0] := by rw [hoff4, em]
  have ho3 : k1_off3 (grid1.coords t) = ![(t.val - 10) * 1000, 0] := by rw [hoff3, em]
  have hk' := known_B' V c ⟨t.val - 10, hi⟩ d2 (by rw [← ev]; exact hk) (k1_off4 (grid1.coords t)) ho4
  rw [← ev] at hk'
  unfold sup2B at hk'
  rw [← et] at hk'
  have h2 : k1_cond2 (grid1.coords t) = 1#1 := (hcond1_2 t).mpr (by omega)
  have hw : VecWindow.window (s := S10000x128) (byRows (hidB V c)) (k1_off3 (grid1.coords t)) S1000x128.size (k1_off3_inb (grid1.coords t) h2) = hidB V c ⟨t.val - 10, hi⟩ :=
    window_byRows (hidB V c) ⟨t.val - 10, hi⟩ _ ho3 _
  rw [← hw] at hk'
  iapply (body1_B c (grid1.coords t) _ _ _ _ _ _ _ _ _ _ _ _ _ _ _ _ _ _ _ _ _ _ _ _ (fun h => by have := (hcond1_1 t).mp h; omega) h2 (fun h => by have := (hcond1_3 t).mp h; omega) (iblk1 V c 0 t) (iblk1 V c 1 t) (iblk1 V c 2 t) (iblk1 V c 3 t) (iblk1 V c 4 t) (iblk1 V c 5 t) (iblk1 V c 6 t) (iblk1 V c 7 t) _ (supAll V c) d2 (byRows (hidB V c)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS1]; · iexact HS1
  isplitl [HS2]; · iexact HS2
  isplitl [HS3]; · iexact HS3
  iintro ⟨H0, H1, H2, H3, H4, H5, H6, H7, H8, HS1, HS2, HS3⟩
  isplitl [HS1 HS2 HS3 HR Hg]
  · isplitl [HS1 HS2 HS3]
    · iexists _, _, _; isplitr; · ipureintro; exact hk'
      isplitl [HS1]; · iexact HS1
      isplitl [HS2]; · iexact HS2
      iexact HS3
    isplitl [HR]; · iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  rw [left8_idle V c t (by omega)]; iexists e8; iexact H8

set_option maxHeartbeats 3200000 in
/-- The body at a point of the last pass. -/
theorem sound1_C (c : Dev nD) (t : Fin cfg1.N) (h : 20 ≤ t.val) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).owesAt () t.succ = (dat1 V c).owesAt () t.castSucc from rfl,
    after1_0, after1_1, after1_2, after1_3, after1_4, after1_5, after1_6, after1_7]
  rw [show (dat1 V c).Φ t.castSucc = Phi1 V c t.val from rfl, show (dat1 V c).Φ t.succ = Phi1 V c (t.val + 1) from rfl]
  unfold Phi1
  iintro ⟨⟨⟨%d1, %d2, %d3, %hk, HS1, HS2, HS3⟩, HR, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩⟩
  have hN : t.val < 30 := lt_of_lt_of_eq t.isLt (show cfg1.N = 30 from N_1)
  obtain ⟨rfl, hk'⟩ := known_C V c t.val h d1 d2 d3 hk
  iapply (body1_C c (grid1.coords t) _ _ _ _ _ _ _ _ _ _ _ _ _ _ _ _ _ _ _ _ _ _ _ _ (fun h => by have := (hcond1_1 t).mp h; omega) (fun h => by have := (hcond1_2 t).mp h; omega) ((hcond1_3 t).mpr (by omega)) (iblk1 V c 0 t) (iblk1 V c 1 t) (iblk1 V c 2 t) (iblk1 V c 3 t) (iblk1 V c 4 t) (iblk1 V c 5 t) (iblk1 V c 6 t) (iblk1 V c 7 t) _ d1 (sup2All V c) d3 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS1]; · iexact HS1
  isplitl [HS2]; · iexact HS2
  isplitl [HS3]; · iexact HS3
  iintro ⟨H0, H1, H2, H3, H4, H5, H6, H7, H8, HS1, HS2, HS3⟩
  isplitl [HS1 HS2 HS3 HR Hg]
  · isplitl [HS1 HS2 HS3]
    · iexists _, _, _; isplitr; · ipureintro; exact hk'
      isplitl [HS1]; · iexact HS1
      isplitl [HS2]; · iexact HS2
      iexact HS3
    isplitl [HR]; · iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  rw [left8_live V c t h]; iexact H8

/-- The body table's row at point `t`'s slots is the body as `bodyAt1` spells it. -/
theorem row1 (t : Fin cfg1.N) : defs₀ (F := F) .tc cfg1.body (cfg1.bodyArgs t (cfg1.slots t)) = bodyAt1 t := by
  unfold defs₀; rw [Defs.onTc_tc]

/-- The second call's body meets its proof data at every point. -/
theorem obligation1 (c : Dev nD) : BodyObligation (dat1 V c) (defs₀ (F := F)) Variants.none () Set.univ := fun t => by
  rw [bigSep_W1, bigSep_W1, row1]
  have hs : bodyPre1 V c t ⊢ wp frame (wpE (defs₀ (F := F)) Variants.none c none) Set.univ (bodyAt1 t) (fun _ => bodyPost1 V c t) := by
    by_cases h : t.val < 10
    · exact sound1_A V c t h
    · by_cases h' : t.val < 20
      · exact sound1_B V c t (by omega) h'
      · exact sound1_C V c t (by omega)
  exact triple_restated hs rfl .rfl fun _ => .rfl

/-- The scoped buffers at anything and the generator register give the invariant before the first point. -/
theorem hin1 (c : Dev nD) : iprop(Pipeline.scopedRest (Ix := Unit) (Name := ℕ) (U := UR sig nD τ) (Lvl := ℕ) (Val := Elt F) spec1 c ∗ (∃ r, prngReg c r)) ⊢ (dat1 V c).Φ 0 := by
  rw [show (dat1 V c).Φ 0 = Phi1 V c 0 from rfl, scopedRest1_eq]
  unfold Phi1
  simp only [owns_whole]
  iintro ⟨⟨HR0, HR1, HR2, HR3, HR4, HR5, HR6, HR7, HR8, HR9, HR10, HR11, HR12, HR13, HR14, ⟨%f1, HS1⟩, ⟨%f2, HS2⟩, ⟨%f3, HS3⟩⟩, Hg⟩
  isplitl [HS1 HS2 HS3]
  · iexists f1, f2, f3; isplitr
    · ipureintro; exact ⟨fun y hy => absurd hy (by omega), fun y hy => absurd hy (by omega), fun y hy => absurd hy (by omega)⟩
    isplitl [HS1]; · iexact HS1
    isplitl [HS2]; · iexact HS2
    iexact HS3
  isplitl [HR0 HR1 HR2 HR3 HR4 HR5 HR6 HR7 HR8 HR9 HR10 HR11 HR12 HR13 HR14]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HR11]; · iexact HR11
    isplitl [HR12]; · iexact HR12
    isplitl [HR13]; · iexact HR13
    iexact HR14
  iexact Hg

/-- The invariant after the last point gives them back. -/
theorem hout1 (c : Dev nD) : (dat1 V c).Φ (Fin.last cfg1.N) ⊢ iprop(Pipeline.scopedRest (Ix := Unit) (Name := ℕ) (U := UR sig nD τ) (Lvl := ℕ) (Val := Elt F) spec1 c ∗ (∃ r, prngReg c r)) := by
  rw [show (dat1 V c).Φ (Fin.last cfg1.N) = Phi1 V c cfg1.N from rfl, scopedRest1_eq]
  unfold Phi1
  simp only [owns_whole]
  iintro ⟨⟨%d1, %d2, %d3, %hk, HS1, HS2, HS3⟩, ⟨HR0, HR1, HR2, HR3, HR4, HR5, HR6, HR7, HR8, HR9, HR10, HR11, HR12, HR13, HR14⟩, Hg⟩
  isplitl [HS1 HS2 HS3 HR0 HR1 HR2 HR3 HR4 HR5 HR6 HR7 HR8 HR9 HR10 HR11 HR12 HR13 HR14]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HR11]; · iexact HR11
    isplitl [HR12]; · iexact HR12
    isplitl [HR13]; · iexact HR13
    isplitl [HR14]; · iexact HR14
    isplitl [HS1]; · iexists d1; iexact HS1
    isplitl [HS2]; · iexists d2; iexact HS2
    iexists d3; iexact HS3
  iexact Hg

end Cert.KernelIdeal.Net

end
-- ==== Proof.RunI.lean ====
/- The whole program over any entry contents: both calls as segments of @main, its run, and the frame. -/
module

public import proofs.«01_k».proof.Proof.Region1I
public import proofs.«01_k».proof.Proof.Gen.KernelIdeal.Regions
public import Idealize.ShloMosaic.Lib.Pipeline.Regions
public import Idealize.ShloMosaic.Lib.Pipeline.RegionArraysS
public import Idealize.ShloMosaic.Lib.Pipeline.FrameTail

@[expose] public section

set_option maxRecDepth 16384

noncomputable section

namespace Cert.KernelIdeal.Net

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf Seg HostSeg RegionSeg)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ)

/-- What the first call leaves in a buffer of core `c`. -/
def left0 : Outs (F := F) := fun _ r c => Pipeline.afterRegion (dat0 (V1 m c) c) (V1 m c) (Proc.devRef .tc r)

/-- What the two calls leave: after the first its own arrays, after the second those of the second, entered at the
    contents the host operations between the calls make of the first call's results. -/
def left : Outs (F := F) := fun J r c => match J with
  | 2 => left0 m 2 r c
  | _ => Pipeline.afterRegion (dat1 (V3 m (left0 m) c) c) (V3 m (left0 m) c) (Proc.devRef .tc r)

/-- The second call's entry contents read the first call's results only. -/
theorem V3_left (c : Dev nD) : V3 m (left m) c = V3 m (left0 m) c := rfl

/-- The two pipelines' proof data, each at its entry contents. -/
def pdats : (p : Fin 2) → (c : Dev nD) → Dat τ (Elt F) Unit ℕ (UR sig nD τ) ℕ (cfgs p) c
  | 0 => fun c => dat0 (V1 m c) c
  | 1 => fun c => dat1 (V3 m (left0 m) c) c

/-- Every TensorCore semaphore is assigned the one index. -/
def lev : GSem nD τ sig → Finset Unit := fun g => if g.1.2 = .tc then {()} else ∅

/-- What rides beside the buffers between the items: nothing owed, and the generator register. -/
def rides (_ : Fin 3) (c : Dev nD) : sProp 𝕄 :=
  iprop((∃ Wd, owes (c : Thread nD τ) (0 : CellTallies nD τ sig Unit) Wd) ∗ (∃ r, prngReg c r) ∗ emp)

/-- The staging semaphores lie at the cut and nothing is owed. -/
theorem cut (p : Fin 2) : Pipeline.LevelCut (pcfgs (F := F)) adm () lev (fun _ _ => 0) p (fun _ => 0) (fun _ => (0 : ℕ)) where
  hι c w s := by unfold lev; rw [if_pos rfl]; exact Finset.mem_singleton_self _
  hιb c w s := Nat.le_refl 0
  hD c g i h := absurd h (by simp)

/-- The first call as a segment of @main. -/
def R0 : RegionSeg (pcfgs (F := F)) adm (pdats m) () defs₀ Variants.none lev (fun _ _ => 0) 0 :=
  RegionSeg.ofHeldIn (pcfgs (F := F)) adm (pdats m) () defs₀ Variants.none lev (fun _ _ => 0) 0 (fun _ => 0)
    (Pipeline.ucRefs τ sig) (fun c => iprop(∃ r, prngReg c r)) (fun c => iprop(∃ r, prngReg c r)) launch0.toP rfl
    (fun c => (obligation0 (V1 m c) c).loose) (fun _ _ => rfl) (fun _ => rfl)
    (fun c w => (dat0 (V1 m c) c).share_full (fun _ => rfl) w)
    (fun c => hin0 (V1 m c) c) (fun c => hout0 (V1 m c) c) (fun _ => 0) (cut 0) (fun _ => iprop(emp)) (fun c => V1 m c)
    (fun c w => dat0_A (V1 m c) c w)

/-- The second call as a segment of @main. -/
def R1 : RegionSeg (pcfgs (F := F)) adm (pdats m) () defs₀ Variants.none lev (fun _ _ => 0) 1 :=
  RegionSeg.ofHeldIn (pcfgs (F := F)) adm (pdats m) () defs₀ Variants.none lev (fun _ _ => 0) 1 (fun _ => 0)
    (Pipeline.ucRefs τ sig) (fun c => iprop(∃ r, prngReg c r)) (fun c => iprop(∃ r, prngReg c r)) launch1.toP rfl
    (fun c => (obligation1 (V3 m (left0 m) c) c).loose) (fun _ _ => rfl) (fun _ => rfl)
    (fun c w => (dat1 (V3 m (left0 m) c) c).share_full (fun _ => rfl) w)
    (fun c => hin1 (V3 m (left0 m) c) c) (fun c => hout1 (V3 m (left0 m) c) c) (fun _ => 0) (cut 1) (fun _ => iprop(emp))
    (fun c => V3 m (left0 m) c)
    (fun c w => dat1_A (V3 m (left0 m) c) c w)

/-- The arrays of the first call are unscoped. -/
theorem arrs0 : Pipeline.arrRefs (τ := τ) (pcfgs (F := F) 0).spec ⊆ Pipeline.ucRefs τ sig :=
  Pipeline.arrRefs_sub_ucRefs _ (by decide : ∀ w, (Pipeline.arrRef spec0 w).isScoped = false)

/-- The arrays of the second call are unscoped. -/
theorem arrs1 : Pipeline.arrRefs (τ := τ) (pcfgs (F := F) 1).spec ⊆ Pipeline.ucRefs τ sig :=
  Pipeline.arrRefs_sub_ucRefs _ (by decide : ∀ w, (Pipeline.arrRef spec1 w).isScoped = false)

/-- A buffer reference of a core is one of the unscoped list exactly through a TensorCore reference. -/
theorem of_uc {b : DevRef τ sig} (hb : b ∈ Pipeline.ucRefs τ sig) : ∃ r : Ref sig .tc, b = Proc.devRef .tc r := by
  obtain ⟨r, -, rfl⟩ := Finset.mem_map.mp (Finset.mem_filter.mp hb).1
  exact ⟨r, rfl⟩

/-- The buffers after the first call are the generated valuation after it. -/
theorem exit0 (c : Dev nD) (b : DevRef τ sig) (hb : b ∈ Pipeline.ucRefs τ sig) :
    Pipeline.afterRegion (dat0 (V1 m c) c) (V1 m c) b = V2 m (left m) c b := by
  obtain ⟨r, rfl⟩ := of_uc hb
  by_cases h2 : r = main_v3_2
  · subst h2; exact (show V2 m (left m) c main_v3_2 = left m 2 main_v3_2 c from Function.update_self _ _ _).symm
  by_cases h1 : r = main_v3_1
  · subst h1
    exact (show V2 m (left m) c main_v3_1 = left m 2 main_v3_1 c from
      (Function.update_of_ne (StableHlo.devRef_ne_of_ne (by decide : main_v3_1 ≠ main_v3_2)) _ _).trans (Function.update_self _ _ _)).symm
  by_cases h0 : r = main_v3_0
  · subst h0
    exact (show V2 m (left m) c main_v3_0 = left m 2 main_v3_0 c from
      (Function.update_of_ne (StableHlo.devRef_ne_of_ne (by decide : main_v3_0 ≠ main_v3_2)) _ _).trans
      ((Function.update_of_ne (StableHlo.devRef_ne_of_ne (by decide : main_v3_0 ≠ main_v3_1)) _ _).trans (Function.update_self _ _ _))).symm
  rw [V2_of m (left m) c r (by simp [h0, h1, h2])]
  refine Pipeline.afterRegion_keeps _ _ winFacts0.arr_inj (dat0_A (V1 m c) c) r fun w hw => ?_
  subst hw
  revert h0 h1 h2
  revert w
  decide

/-- The buffers after the second call are the generated valuation after it. -/
theorem exit1 (c : Dev nD) (b : DevRef τ sig) (hb : b ∈ Pipeline.ucRefs τ sig) :
    Pipeline.afterRegion (dat1 (V3 m (left0 m) c) c) (V3 m (left0 m) c) b = V4 m (left m) c b := by
  obtain ⟨r, rfl⟩ := of_uc hb
  by_cases h0 : r = main_v22
  · subst h0; exact (show V4 m (left m) c main_v22 = left m 4 main_v22 c from Function.update_self _ _ _).symm
  rw [V4_of m (left m) c r (by simp [h0])]
  refine Pipeline.afterRegion_keeps _ _ winFacts1.arr_inj (dat1_A (V3 m (left0 m) c) c) r fun w hw => ?_
  subst hw
  revert h0
  revert w
  decide

/-- The first call is entered from the state before it. -/
theorem pre0 (c : Dev nD) : iprop(StableHlo.held (c : Thread nD τ) (Pipeline.ucRefs τ sig) (V1 m c) ∗ rides (F := F) 0 c) ⊢ (R0 m).pre c := by
  unfold R0 rides
  exact RegionSeg.ofHeldIn_pre (X := fun c => iprop(∃ r, prngReg c r)) (R := fun _ => iprop(emp)) (W := fun c => V1 m c) (D := fun _ => 0) arrs0 c

/-- The first call is left at the state after it. -/
theorem post0 (c : Dev nD) : (R0 m).post c ⊢ iprop(StableHlo.held (c : Thread nD τ) (Pipeline.ucRefs τ sig) (V2 m (left m) c) ∗ rides (F := F) 1 c) := by
  rw [← StableHlo.held_congr (c.tc : Thread nD τ) (S := Pipeline.ucRefs τ sig) (exit0 m c)]
  unfold R0 rides
  exact RegionSeg.ofHeldIn_post (Y := fun c => iprop(∃ r, prngReg c r)) (R := fun _ => iprop(emp)) (W := fun c => V1 m c) (D := fun _ => 0) arrs0 c

/-- The second call is entered from the state before it. -/
theorem pre1 (c : Dev nD) : iprop(StableHlo.held (c : Thread nD τ) (Pipeline.ucRefs τ sig) (V3 m (left m) c) ∗ rides (F := F) 1 c) ⊢ (R1 m).pre c := by
  rw [V3_left]
  unfold R1 rides
  exact RegionSeg.ofHeldIn_pre (X := fun c => iprop(∃ r, prngReg c r)) (R := fun _ => iprop(emp)) (W := fun c => V3 m (left0 m) c) (D := fun _ => 0) arrs1 c

/-- The second call is left at the state after it. -/
theorem post1 (c : Dev nD) : (R1 m).post c ⊢ iprop(StableHlo.held (c : Thread nD τ) (Pipeline.ucRefs τ sig) (V4 m (left m) c) ∗ rides (F := F) 2 c) := by
  rw [← StableHlo.held_congr (c.tc : Thread nD τ) (S := Pipeline.ucRefs τ sig) (exit1 m c)]
  unfold R1 rides
  exact RegionSeg.ofHeldIn_post (Y := fun c => iprop(∃ r, prngReg c r)) (R := fun _ => iprop(emp)) (W := fun c => V3 m (left0 m) c) (D := fun _ => 0) arrs1 c

set_option backward.isDefEq.respectTransparency.types false in
/-- Every execution of @main ends, with every unscoped buffer of each core at the last valuation and every semaphore
    counter at zero. -/
theorem run (ρ : Dev nD → PrngReg) :
    θ_run defs (onTc (τ := τ) (main (F := F))) ⟨m, fun _ => 0, ρ⟩ (fun r =>
      (∀ c : Dev nD, ∀ b ∈ Pipeline.ucRefs τ sig, r.2.mem ((c.tc : Thread nD τ).1, b) = V4 m (left m) c b) ∧ r.2.sem = fun _ => 0) := by
  refine Pipeline.θ_run_regions_kit_dev_sems (pcfgs (F := F)) adm (pdats m) () cellOf_inj emb₁ defs₀ Variants.none lev (fun _ _ => 0) m ρ main
    (segs m (left m) Variants.none lev (fun _ _ => 0) rides () (pdats m) (R0 m) (R1 m))
    (fun c Q => by
      rewrite [main_chain c, Seg.run_eq_chain,
        show (segs m (left m) Variants.none lev (fun _ _ => 0) rides () (pdats m) (R0 m) (R1 m) c).map Seg.prog = [
          StableHlo.seq hostOps0,
          Prog.lift (.customCall (Pipeline.entry 0) ()),
          StableHlo.seq hostOps1,
          Prog.lift (.customCall (Pipeline.entry 1) ()) ] from rfl]
      dsimp (config := { failIfUnchanged := false }) only
      exact .rfl)
    (fun c => by simp only [segs, Seg.pipes_host, Seg.pipes_region, Seg.pipes_nil]; decide) (fun _ => 0)
    (fun g hg => if_neg hg) (fun _ => iprop(emp))
    (initOf (Pipeline.cells cfgs cellOf_inj) (Pipeline.launchToks cfgs cellOf_inj)) (by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ rides (F := F) 0 c))
    (Tₙ := fun c => StableHlo.held (c : Thread nD τ) (Pipeline.ucRefs τ sig) (V4 m (left m) c))
    (hch := fun c => ⟨.rfl, pre0 m c, post0 m c, pre1 m c, (post1 m c).trans (sep_mono .rfl (by
      unfold rides; iintro ⟨HO, -⟩; iexact HO))⟩)
    (hinit := Pipeline.initEach lev (fun _ _ => 0) fun c => by
      rw [← Pipeline.unscopedBufs_held (Ix := Unit) (Name := ℕ) (U := UR sig nD τ) (Lvl := ℕ) c (V0 m c)]
      unfold rides
      iintro ⟨⟨Hh, -, HO, -, Hp, -⟩, -⟩
      imodintro
      isplitl [Hh]; · iexact Hh
      isplitl [HO]; · iexists _; iexact HO
      isplitl [Hp]; · iexists _; iexact Hp
      iempintro)
    (QY := fun c s => ∀ b ∈ Pipeline.ucRefs τ sig, s.mem ((c.tc : Thread nD τ).1, b) = V4 m (left m) c b)
    (hfin := fun c s' => by
      unfold StableHlo.held
      iintro ⟨Hh, HSI⟩
      ihave Hr := (pointsTo_read_all (Pipeline.ucRefs τ sig) (fun b => ((c : Thread nD τ).1, b)) (V4 m (left m) c) s') $$ [Hh HSI]
      · isplitl [Hh] <;> iassumption
      imodintro; iexact Hr)
    (hQ := fun _ h hz => ⟨h, funext fun g => hz g (.inr (regions_no_unscoped g.2))⟩)

/-- A final state of `run` read at an unscoped reference. -/
theorem run_at {s : MemSt nD τ sig (Elt F)} {c : Dev nD}
    (h : ∀ b ∈ Pipeline.ucRefs τ sig, s.mem ((c.tc : Thread nD τ).1, b) = V4 m (left m) c b) (r : Ref sig .tc)
    (hr : r.isScoped = false) : s.mem ((c.tc : Thread nD τ).loc r) = V4 m (left m) c r :=
  h _ (Pipeline.devRef_mem_ucRefs hr)

/-- Every argument is as launched where the unscoped buffers are at the last valuation. -/
theorem args_kept {s : MemSt nD τ sig (Elt F)} {c : Dev nD}
    (h : ∀ b ∈ Pipeline.ucRefs τ sig, s.mem ((c.tc : Thread nD τ).1, b) = V4 m (left m) c b) :
    s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)
      ∧ s.mem ((c.tc : Thread nD τ).loc main_arg11) = m ((c.tc : Thread nD τ).loc main_arg11)
      ∧ s.mem ((c.tc : Thread nD τ).loc main_arg12) = m ((c.tc : Thread nD τ).loc main_arg12)
      ∧ s.mem ((c.tc : Thread nD τ).loc main_arg13) = m ((c.tc : Thread nD τ).loc main_arg13)
      ∧ s.mem ((c.tc : Thread nD τ).loc main_arg14) = m ((c.tc : Thread nD τ).loc main_arg14)
      ∧ s.mem ((c.tc : Thread nD τ).loc main_arg15) = m ((c.tc : Thread nD τ).loc main_arg15)
      ∧ s.mem ((c.tc : Thread nD τ).loc main_arg16) = m ((c.tc : Thread nD τ).loc main_arg16)
      ∧ s.mem ((c.tc : Thread nD τ).loc main_arg17) = m ((c.tc : Thread nD τ).loc main_arg17) := by
  exact ⟨(run_at m h main_arg0 (by decide)).trans (V4_main_arg0 m (left m) c),
    (run_at m h main_arg1 (by decide)).trans (V4_main_arg1 m (left m) c),
    (run_at m h main_arg2 (by decide)).trans (V4_main_arg2 m (left m) c),
    (run_at m h main_arg3 (by decide)).trans (V4_main_arg3 m (left m) c),
    (run_at m h main_arg4 (by decide)).trans (V4_main_arg4 m (left m) c),
    (run_at m h main_arg5 (by decide)).trans (V4_main_arg5 m (left m) c),
    (run_at m h main_arg6 (by decide)).trans (V4_main_arg6 m (left m) c),
    (run_at m h main_arg7 (by decide)).trans (V4_main_arg7 m (left m) c),
    (run_at m h main_arg8 (by decide)).trans (V4_main_arg8 m (left m) c),
    (run_at m h main_arg9 (by decide)).trans (V4_main_arg9 m (left m) c),
    (run_at m h main_arg10 (by decide)).trans (V4_main_arg10 m (left m) c),
    (run_at m h main_arg11 (by decide)).trans (V4_main_arg11 m (left m) c),
    (run_at m h main_arg12 (by decide)).trans (V4_main_arg12 m (left m) c),
    (run_at m h main_arg13 (by decide)).trans (V4_main_arg13 m (left m) c),
    (run_at m h main_arg14 (by decide)).trans (V4_main_arg14 m (left m) c),
    (run_at m h main_arg15 (by decide)).trans (V4_main_arg15 m (left m) c),
    (run_at m h main_arg16 (by decide)).trans (V4_main_arg16 m (left m) c),
    (run_at m h main_arg17 (by decide)).trans (V4_main_arg17 m (left m) c)⟩

/-- Every execution of @main ends, with each argument as launched and every semaphore counter at zero. -/
theorem frame (ρ : Dev nD → PrngReg) :
    θ_run defs (onTc (τ := τ) (main (F := F))) ⟨m, fun _ => 0, ρ⟩ (fun r =>
      (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) ∧ r.2.sem = fun _ => 0) :=
  (θ_run defs _ _).mono (fun r h => ⟨fun c => args_kept m (h.1 c), h.2⟩) (run m ρ)

/-- The result: the second call's output array after its last grid point. -/
theorem result_at (c : Dev nD) : V4 m (left m) c main_v22 = (dat1 (V3 m (left0 m) c) c).arrAt 8 cfg1.N :=
  (Function.update_self _ _ _).trans (Pipeline.afterRegion_arr (dat1 (V3 m (left0 m) c) c) (V3 m (left0 m) c) winFacts1.arr_inj 8)

end Cert.KernelIdeal.Net

end
-- ==== Proof.RefRun.lean ====
/- The reference's run: its operations in pieces, what each piece leaves, and the whole program's result. -/
module

public import Idealize.ShloMosaic.Lib.StableHlo.Run
public import Idealize.ShloMosaic.Lib.Pipeline.Frame
public import proofs.«01_k».proof.Proof.Gen.ReferenceIdeal

@[expose] public section

set_option maxRecDepth 16384

noncomputable section

namespace Cert.ReferenceIdeal.Plain

open Idealize.ShloMosaic Idealize.ShloMosaic.TcCoe Idealize.ShloMosaic.StableHlo Idealize.SL.Sem
open Cert.ReferenceIdeal.Gen

variable {F : FTy → Type} [FloatOps F]

/-- A vector repeated down the rows. -/
def rows (b : (⟨S128, .f32⟩ : BufTy).Contents (Elt F)) : (⟨S10000x128, .f32⟩ : BufTy).Contents (Elt F) :=
  broadcastInDim S10000x128 ![0, 1] bcast_S1x128_S10000x128_0_1 (broadcastInDim S1x128 ![1] bcast_S128_S1x128_1 b)

/-- A number repeated over the array. -/
def flat (w : BitVec 32) : (⟨S10000x128, .f32⟩ : BufTy).Contents (Elt F) := broadcastInDim S10000x128 ![] bcast_S_S10000x128 (constant S_ .f32 w)

/-- A column repeated along the rows. -/
def spread (v : (⟨S10000x1, .f32⟩ : BufTy).Contents (Elt F)) : (⟨S10000x128, .f32⟩ : BufTy).Contents (Elt F) :=
  broadcastInDim S10000x128 ![0, 1] bcast_S10000x1_S10000x128_0_1 v

/-- The mean of each row, as a column. -/
def means (t : (⟨S10000x128, .f32⟩ : BufTy).Contents (Elt F)) : (⟨S10000x1, .f32⟩ : BufTy).Contents (Elt F) :=
  Host.divf (broadcastInDim S10000x1 ![0] bcast_S10000_S10000x1_0
      (Host.reduceAdd t (constant S_ .f32 0x00000000#32) reducesTo_S10000x128_S10000_d1 h_S_))
    (broadcastInDim S10000x1 ![] bcast_S_S10000x1 (constant S_ .f32 0x43000000#32))

/-- The graph convolution and the batch norm's division. -/
def conv (adj : (⟨S10000x10000, .f32⟩ : BufTy).Contents (Elt F)) (h : (⟨S10000x128, .f32⟩ : BufTy).Contents (Elt F)) (w : (⟨S128x128, .f32⟩ : BufTy).Contents (Elt F)) (b : (⟨S128, .f32⟩ : BufTy).Contents (Elt F)) : (⟨S10000x128, .f32⟩ : BufTy).Contents (Elt F) :=
  Host.divf (addf (Host.dotGeneral dot_S10000x10000_S10000x128_S10000x128_1_0_0_1_n_n none adj
      (Host.dotGeneral dot_S10000x128_S128x128_S10000x128_1_0_0_1_n_n none h w)) (rows b))
    (broadcastInDim S10000x128 ![] bcast_S_S10000x128 (id (Host.sqrt (constant S_ .f32 0x3F800054#32))))

/-- The layer norm. -/
def norm (t : (⟨S10000x128, .f32⟩ : BufTy).Contents (Elt F)) (g be : (⟨S128, .f32⟩ : BufTy).Contents (Elt F)) : (⟨S10000x128, .f32⟩ : BufTy).Contents (Elt F) :=
  addf (mulf (Host.divf (subf t (spread (means t)))
    (spread (Host.sqrt (addf (means (mulf (subf t (spread (means t))) (subf t (spread (means t)))))
      (broadcastInDim S10000x1 ![] bcast_S_S10000x1 (constant S_ .f32 0x3727C5AC#32)))))) (rows g)) (rows be)

/-- The larger of an entry and zero. -/
def relu (y : (⟨S10000x128, .f32⟩ : BufTy).Contents (Elt F)) : (⟨S10000x128, .f32⟩ : BufTy).Contents (Elt F) := maximumf y (flat 0x00000000#32)

/-- A multiple of the residual added. -/
def plus (c : BitVec 32) (y h : (⟨S10000x128, .f32⟩ : BufTy).Contents (Elt F)) : (⟨S10000x128, .f32⟩ : BufTy).Contents (Elt F) := addf y (mulf (flat c) h)

/-- The operations of @main that make `v8`. -/
abbrev ops_pre0 : List (HloOp τ sig (Elt F)) :=
  [ binary main_arg0 main_arg2 main_v0 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    binary main_arg1 main_v0 main_v1 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    unary main_arg3 main_v2 (broadcastInDim S1x128 ![1] bcast_S128_S1x128_1 : (⟨S128, .f32⟩ : BufTy).Contents (Elt F) → (⟨S1x128, .f32⟩ : BufTy).Contents (Elt F)),
    unary main_v2 main_v3 (broadcastInDim S10000x128 ![0, 1] bcast_S1x128_S10000x128_0_1 : (⟨S1x128, .f32⟩ : BufTy).Contents (Elt F) → (⟨S10000x128, .f32⟩ : BufTy).Contents (Elt F)),
    binary main_v1 main_v3 main_v4 (addf : (⟨S10000x128, .f32⟩ : BufTy).Contents (Elt F) → (⟨S10000x128, .f32⟩ : BufTy).Contents (Elt F) → (⟨S10000x128, .f32⟩ : BufTy).Contents (Elt F)),
    nullary main_cst (constant S_ .f32 0x3F800054#32),
    unary main_cst main_v5 (Host.sqrt : (⟨S_, .f32⟩ : BufTy).Contents (Elt F) → (⟨S_, .f32⟩ : BufTy).Contents (Elt F)),
    unary main_v5 main_v6 (id : (⟨S_, .f32⟩ : BufTy).Contents (Elt F) → (⟨S_, .f32⟩ : BufTy).Contents (Elt F)),
    unary main_v6 main_v7 (broadcastInDim S10000x128 ![] bcast_S_S10000x128 : (⟨S_, .f32⟩ : BufTy).Contents (Elt F) → (⟨S10000x128, .f32⟩ : BufTy).Contents (Elt F)),
    binary main_v4 main_v7 main_v8 (Host.divf : (⟨S10000x128, .f32⟩ : BufTy).Contents (Elt F) → (⟨S10000x128, .f32⟩ : BufTy).Contents (Elt F) → (⟨S10000x128, .f32⟩ : BufTy).Contents (Elt F)) ]

/-- The references these operations write. -/
abbrev wr_pre0 : List (Ref sig .tc) := [main_v0, main_v1, main_v2, main_v3, main_v4, main_cst, main_v5, main_v6, main_v7, main_v8]

/-- A reference they do not write keeps its contents. -/
theorem keep_pre0 (V : Valuation τ sig (Elt F)) (r : Ref sig .tc) (h : r ∉ wr_pre0) :
    after ops_pre0 V (Proc.devRef .tc r) = V (Proc.devRef .tc r) :=
  after_of_writes_sub _ _ (forall_writes_sub_of_map (W := wr_pre0) rfl) h

/-- The operations of @main that make `v32`. -/
abbrev ops_norm0 : List (HloOp τ sig (Elt F)) :=
  [ nullary main_cst_0 (constant S_ .f32 0x00000000#32),
    binary main_v8 main_cst_0 main_v9 ((fun x v => Host.reduceAdd x v reducesTo_S10000x128_S10000_d1 h_S_) : (⟨S10000x128, .f32⟩ : BufTy).Contents (Elt F) → (⟨S_, .f32⟩ : BufTy).Contents (Elt F) → (⟨S10000, .f32⟩ : BufTy).Contents (Elt F)),
    unary main_v9 main_v10 (broadcastInDim S10000x1 ![0] bcast_S10000_S10000x1_0 : (⟨S10000, .f32⟩ : BufTy).Contents (Elt F) → (⟨S10000x1, .f32⟩ : BufTy).Contents (Elt F)),
    nullary main_cst_1 (constant S_ .f32 0x43000000#32),
    unary main_cst_1 main_v11 (broadcastInDim S10000x1 ![] bcast_S_S10000x1 : (⟨S_, .f32⟩ : BufTy).Contents (Elt F) → (⟨S10000x1, .f32⟩ : BufTy).Contents (Elt F)),
    binary main_v10 main_v11 main_v12 (Host.divf : (⟨S10000x1, .f32⟩ : BufTy).Contents (Elt F) → (⟨S10000x1, .f32⟩ : BufTy).Contents (Elt F) → (⟨S10000x1, .f32⟩ : BufTy).Contents (Elt F)),
    unary main_v12 main_v13 (broadcastInDim S10000x128 ![0, 1] bcast_S10000x1_S10000x128_0_1 : (⟨S10000x1, .f32⟩ : BufTy).Contents (Elt F) → (⟨S10000x128, .f32⟩ : BufTy).Contents (Elt F)),
    binary main_v8 main_v13 main_v14 (subf : (⟨S10000x128, .f32⟩ : BufTy).Contents (Elt F) → (⟨S10000x128, .f32⟩ : BufTy).Contents (Elt F) → (⟨S10000x128, .f32⟩ : BufTy).Contents (Elt F)),
    binary main_v14 main_v14 main_v15 (mulf : (⟨S10000x128, .f32⟩ : BufTy).Contents (Elt F) → (⟨S10000x128, .f32⟩ : BufTy).Contents (Elt F) → (⟨S10000x128, .f32⟩ : BufTy).Contents (Elt F)),
    nullary main_cst_2 (constant S_ .f32 0x00000000#32),
    binary main_v15 main_cst_2 main_v16 ((fun x v => Host.reduceAdd x v reducesTo_S10000x128_S10000_d1 h_S_) : (⟨S10000x128, .f32⟩ : BufTy).Contents (Elt F) → (⟨S_, .f32⟩ : BufTy).Contents (Elt F) → (⟨S10000, .f32⟩ : BufTy).Contents (Elt F)),
    unary main_v16 main_v17 (broadcastInDim S10000x1 ![0] bcast_S10000_S10000x1_0 : (⟨S10000, .f32⟩ : BufTy).Contents (Elt F) → (⟨S10000x1, .f32⟩ : BufTy).Contents (Elt F)),
    nullary main_cst_3 (constant S_ .f32 0x43000000#32),
    unary main_cst_3 main_v18 (broadcastInDim S10000x1 ![] bcast_S_S10000x1 : (⟨S_, .f32⟩ : BufTy).Contents (Elt F) → (⟨S10000x1, .f32⟩ : BufTy).Contents (Elt F)),
    binary main_v17 main_v18 main_v19 (Host.divf : (⟨S10000x1, .f32⟩ : BufTy).Contents (Elt F) → (⟨S10000x1, .f32⟩ : BufTy).Contents (Elt F) → (⟨S10000x1, .f32⟩ : BufTy).Contents (Elt F)),
    unary main_v12 main_v20 (broadcastInDim S10000x128 ![0, 1] bcast_S10000x1_S10000x128_0_1 : (⟨S10000x1, .f32⟩ : BufTy).Contents (Elt F) → (⟨S10000x128, .f32⟩ : BufTy).Contents (Elt F)),
    binary main_v8 main_v20 main_v21 (subf : (⟨S10000x128, .f32⟩ : BufTy).Contents (Elt F) → (⟨S10000x128, .f32⟩ : BufTy).Contents (Elt F) → (⟨S10000x128, .f32⟩ : BufTy).Contents (Elt F)),
    nullary main_cst_4 (constant S_ .f32 0x3727C5AC#32),
    unary main_cst_4 main_v22 (broadcastInDim S10000x1 ![] bcast_S_S10000x1 : (⟨S_, .f32⟩ : BufTy).Contents (Elt F) → (⟨S10000x1, .f32⟩ : BufTy).Contents (Elt F)),
    binary main_v19 main_v22 main_v23 (addf : (⟨S10000x1, .f32⟩ : BufTy).Contents (Elt F) → (⟨S10000x1, .f32⟩ : BufTy).Contents (Elt F) → (⟨S10000x1, .f32⟩ : BufTy).Contents (Elt F)),
    unary main_v23 main_v24 (Host.sqrt : (⟨S10000x1, .f32⟩ : BufTy).Contents (Elt F) → (⟨S10000x1, .f32⟩ : BufTy).Contents (Elt F)),
    unary main_v24 main_v25 (broadcastInDim S10000x128 ![0, 1] bcast_S10000x1_S10000x128_0_1 : (⟨S10000x1, .f32⟩ : BufTy).Contents (Elt F) → (⟨S10000x128, .f32⟩ : BufTy).Contents (Elt F)),
    binary main_v21 main_v25 main_v26 (Host.divf : (⟨S10000x128, .f32⟩ : BufTy).Contents (Elt F) → (⟨S10000x128, .f32⟩ : BufTy).Contents (Elt F) → (⟨S10000x128, .f32⟩ : BufTy).Contents (Elt F)),
    unary main_arg10 main_v27 (broadcastInDim S1x128 ![1] bcast_S128_S1x128_1 : (⟨S128, .f32⟩ : BufTy).Contents (Elt F) → (⟨S1x128, .f32⟩ : BufTy).Contents (Elt F)),
    unary main_v27 main_v28 (broadcastInDim S10000x128 ![0, 1] bcast_S1x128_S10000x128_0_1 : (⟨S1x128, .f32⟩ : BufTy).Contents (Elt F) → (⟨S10000x128, .f32⟩ : BufTy).Contents (Elt F)),
    binary main_v26 main_v28 main_v29 (mulf : (⟨S10000x128, .f32⟩ : BufTy).Contents (Elt F) → (⟨S10000x128, .f32⟩ : BufTy).Contents (Elt F) → (⟨S10000x128, .f32⟩ : BufTy).Contents (Elt F)),
    unary main_arg11 main_v30 (broadcastInDim S1x128 ![1] bcast_S128_S1x128_1 : (⟨S128, .f32⟩ : BufTy).Contents (Elt F) → (⟨S1x128, .f32⟩ : BufTy).Contents (Elt F)),
    unary main_v30 main_v31 (broadcastInDim S10000x128 ![0, 1] bcast_S1x128_S10000x128_0_1 : (⟨S1x128, .f32⟩ : BufTy).Contents (Elt F) → (⟨S10000x128, .f32⟩ : BufTy).Contents (Elt F)),
    binary main_v29 main_v31 main_v32 (addf : (⟨S10000x128, .f32⟩ : BufTy).Contents (Elt F) → (⟨S10000x128, .f32⟩ : BufTy).Contents (Elt F) → (⟨S10000x128, .f32⟩ : BufTy).Contents (Elt F)) ]

/-- The references these operations write. -/
abbrev wr_norm0 : List (Ref sig .tc) := [main_cst_0, main_v9, main_v10, main_cst_1, main_v11, main_v12, main_v13, main_v14, main_v15, main_cst_2, main_v16, main_v17, main_cst_3, main_v18, main_v19, main_v20, main_v21, main_cst_4, main_v22, main_v23, main_v24, main_v25, main_v26, main_v27, main_v28, main_v29, main_v30, main_v31, main_v32]

/-- A reference they do not write keeps its contents. -/
theorem keep_norm0 (V : Valuation τ sig (Elt F)) (r : Ref sig .tc) (h : r ∉ wr_norm0) :
    after ops_norm0 V (Proc.devRef .tc r) = V (Proc.devRef .tc r) :=
  after_of_writes_sub _ _ (forall_writes_sub_of_map (W := wr_norm0) rfl) h

/-- The operations of @main that make `v33`. -/
abbrev ops_relu0 : List (HloOp τ sig (Elt F)) :=
  [ nullary main_call0_cst (constant S_ .f32 0x00000000#32),
    unary main_call0_cst main_call0_v0 (broadcastInDim S10000x128 ![] bcast_S_S10000x128 : (⟨S_, .f32⟩ : BufTy).Contents (Elt F) → (⟨S10000x128, .f32⟩ : BufTy).Contents (Elt F)),
    binary main_v32 main_call0_v0 main_v33 (maximumf : (⟨S10000x128, .f32⟩ : BufTy).Contents (Elt F) → (⟨S10000x128, .f32⟩ : BufTy).Contents (Elt F) → (⟨S10000x128, .f32⟩ : BufTy).Contents (Elt F)) ]

/-- The references these operations write. -/
abbrev wr_relu0 : List (Ref sig .tc) := [main_call0_cst, main_call0_v0, main_v33]

/-- A reference they do not write keeps its contents. -/
theorem keep_relu0 (V : Valuation τ sig (Elt F)) (r : Ref sig .tc) (h : r ∉ wr_relu0) :
    after ops_relu0 V (Proc.devRef .tc r) = V (Proc.devRef .tc r) :=
  after_of_writes_sub _ _ (forall_writes_sub_of_map (W := wr_relu0) rfl) h

/-- The operations of @main that make `v42`. -/
abbrev ops_pre1 : List (HloOp τ sig (Elt F)) :=
  [ binary main_v33 main_arg4 main_v34 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    binary main_arg1 main_v34 main_v35 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    unary main_arg5 main_v36 (broadcastInDim S1x128 ![1] bcast_S128_S1x128_1 : (⟨S128, .f32⟩ : BufTy).Contents (Elt F) → (⟨S1x128, .f32⟩ : BufTy).Contents (Elt F)),
    unary main_v36 main_v37 (broadcastInDim S10000x128 ![0, 1] bcast_S1x128_S10000x128_0_1 : (⟨S1x128, .f32⟩ : BufTy).Contents (Elt F) → (⟨S10000x128, .f32⟩ : BufTy).Contents (Elt F)),
    binary main_v35 main_v37 main_v38 (addf : (⟨S10000x128, .f32⟩ : BufTy).Contents (Elt F) → (⟨S10000x128, .f32⟩ : BufTy).Contents (Elt F) → (⟨S10000x128, .f32⟩ : BufTy).Contents (Elt F)),
    nullary main_cst_5 (constant S_ .f32 0x3F800054#32),
    unary main_cst_5 main_v39 (Host.sqrt : (⟨S_, .f32⟩ : BufTy).Contents (Elt F) → (⟨S_, .f32⟩ : BufTy).Contents (Elt F)),
    unary main_v39 main_v40 (id : (⟨S_, .f32⟩ : BufTy).Contents (Elt F) → (⟨S_, .f32⟩ : BufTy).Contents (Elt F)),
    unary main_v40 main_v41 (broadcastInDim S10000x128 ![] bcast_S_S10000x128 : (⟨S_, .f32⟩ : BufTy).Contents (Elt F) → (⟨S10000x128, .f32⟩ : BufTy).Contents (Elt F)),
    binary main_v38 main_v41 main_v42 (Host.divf : (⟨S10000x128, .f32⟩ : BufTy).Contents (Elt F) → (⟨S10000x128, .f32⟩ : BufTy).Contents (Elt F) → (⟨S10000x128, .f32⟩ : BufTy).Contents (Elt F)) ]

/-- The references these operations write. -/
abbrev wr_pre1 : List (Ref sig .tc) := [main_v34, main_v35, main_v36, main_v37, main_v38, main_cst_5, main_v39, main_v40, main_v41, main_v42]

/-- A reference they do not write keeps its contents. -/
theorem keep_pre1 (V : Valuation τ sig (Elt F)) (r : Ref sig .tc) (h : r ∉ wr_pre1) :
    after ops_pre1 V (Proc.devRef .tc r) = V (Proc.devRef .tc r) :=
  after_of_writes_sub _ _ (forall_writes_sub_of_map (W := wr_pre1) rfl) h

/-- The operations of @main that make `v66`. -/
abbrev ops_norm1 : List (HloOp τ sig (Elt F)) :=
  [ nullary main_cst_6 (constant S_ .f32 0x00000000#32),
    binary main_v42 main_cst_6 main_v43 ((fun x v => Host.reduceAdd x v reducesTo_S10000x128_S10000_d1 h_S_) : (⟨S10000x128, .f32⟩ : BufTy).Contents (Elt F) → (⟨S_, .f32⟩ : BufTy).Contents (Elt F) → (⟨S10000, .f32⟩ : BufTy).Contents (Elt F)),
    unary main_v43 main_v44 (broadcastInDim S10000x1 ![0] bcast_S10000_S10000x1_0 : (⟨S10000, .f32⟩ : BufTy).Contents (Elt F) → (⟨S10000x1, .f32⟩ : BufTy).Contents (Elt F)),
    nullary main_cst_7 (constant S_ .f32 0x43000000#32),
    unary main_cst_7 main_v45 (broadcastInDim S10000x1 ![] bcast_S_S10000x1 : (⟨S_, .f32⟩ : BufTy).Contents (Elt F) → (⟨S10000x1, .f32⟩ : BufTy).Contents (Elt F)),
    binary main_v44 main_v45 main_v46 (Host.divf : (⟨S10000x1, .f32⟩ : BufTy).Contents (Elt F) → (⟨S10000x1, .f32⟩ : BufTy).Contents (Elt F) → (⟨S10000x1, .f32⟩ : BufTy).Contents (Elt F)),
    unary main_v46 main_v47 (broadcastInDim S10000x128 ![0, 1] bcast_S10000x1_S10000x128_0_1 : (⟨S10000x1, .f32⟩ : BufTy).Contents (Elt F) → (⟨S10000x128, .f32⟩ : BufTy).Contents (Elt F)),
    binary main_v42 main_v47 main_v48 (subf : (⟨S10000x128, .f32⟩ : BufTy).Contents (Elt F) → (⟨S10000x128, .f32⟩ : BufTy).Contents (Elt F) → (⟨S10000x128, .f32⟩ : BufTy).Contents (Elt F)),
    binary main_v48 main_v48 main_v49 (mulf : (⟨S10000x128, .f32⟩ : BufTy).Contents (Elt F) → (⟨S10000x128, .f32⟩ : BufTy).Contents (Elt F) → (⟨S10000x128, .f32⟩ : BufTy).Contents (Elt F)),
    nullary main_cst_8 (constant S_ .f32 0x00000000#32),
    binary main_v49 main_cst_8 main_v50 ((fun x v => Host.reduceAdd x v reducesTo_S10000x128_S10000_d1 h_S_) : (⟨S10000x128, .f32⟩ : BufTy).Contents (Elt F) → (⟨S_, .f32⟩ : BufTy).Contents (Elt F) → (⟨S10000, .f32⟩ : BufTy).Contents (Elt F)),
    unary main_v50 main_v51 (broadcastInDim S10000x1 ![0] bcast_S10000_S10000x1_0 : (⟨S10000, .f32⟩ : BufTy).Contents (Elt F) → (⟨S10000x1, .f32⟩ : BufTy).Contents (Elt F)),
    nullary main_cst_9 (constant S_ .f32 0x43000000#32),
    unary main_cst_9 main_v52 (broadcastInDim S10000x1 ![] bcast_S_S10000x1 : (⟨S_, .f32⟩ : BufTy).Contents (Elt F) → (⟨S10000x1, .f32⟩ : BufTy).Contents (Elt F)),
    binary main_v51 main_v52 main_v53 (Host.divf : (⟨S10000x1, .f32⟩ : BufTy).Contents (Elt F) → (⟨S10000x1, .f32⟩ : BufTy).Contents (Elt F) → (⟨S10000x1, .f32⟩ : BufTy).Contents (Elt F)),
    unary main_v46 main_v54 (broadcastInDim S10000x128 ![0, 1] bcast_S10000x1_S10000x128_0_1 : (⟨S10000x1, .f32⟩ : BufTy).Contents (Elt F) → (⟨S10000x128, .f32⟩ : BufTy).Contents (Elt F)),
    binary main_v42 main_v54 main_v55 (subf : (⟨S10000x128, .f32⟩ : BufTy).Contents (Elt F) → (⟨S10000x128, .f32⟩ : BufTy).Contents (Elt F) → (⟨S10000x128, .f32⟩ : BufTy).Contents (Elt F)),
    nullary main_cst_10 (constant S_ .f32 0x3727C5AC#32),
    unary main_cst_10 main_v56 (broadcastInDim S10000x1 ![] bcast_S_S10000x1 : (⟨S_, .f32⟩ : BufTy).Contents (Elt F) → (⟨S10000x1, .f32⟩ : BufTy).Contents (Elt F)),
    binary main_v53 main_v56 main_v57 (addf : (⟨S10000x1, .f32⟩ : BufTy).Contents (Elt F) → (⟨S10000x1, .f32⟩ : BufTy).Contents (Elt F) → (⟨S10000x1, .f32⟩ : BufTy).Contents (Elt F)),
    unary main_v57 main_v58 (Host.sqrt : (⟨S10000x1, .f32⟩ : BufTy).Contents (Elt F) → (⟨S10000x1, .f32⟩ : BufTy).Contents (Elt F)),
    unary main_v58 main_v59 (broadcastInDim S10000x128 ![0, 1] bcast_S10000x1_S10000x128_0_1 : (⟨S10000x1, .f32⟩ : BufTy).Contents (Elt F) → (⟨S10000x128, .f32⟩ : BufTy).Contents (Elt F)),
    binary main_v55 main_v59 main_v60 (Host.divf : (⟨S10000x128, .f32⟩ : BufTy).Contents (Elt F) → (⟨S10000x128, .f32⟩ : BufTy).Contents (Elt F) → (⟨S10000x128, .f32⟩ : BufTy).Contents (Elt F)),
    unary main_arg12 main_v61 (broadcastInDim S1x128 ![1] bcast_S128_S1x128_1 : (⟨S128, .f32⟩ : BufTy).Contents (Elt F) → (⟨S1x128, .f32⟩ : BufTy).Contents (Elt F)),
    unary main_v61 main_v62 (broadcastInDim S10000x128 ![0, 1] bcast_S1x128_S10000x128_0_1 : (⟨S1x128, .f32⟩ : BufTy).Contents (Elt F) → (⟨S10000x128, .f32⟩ : BufTy).Contents (Elt F)),
    binary main_v60 main_v62 main_v63 (mulf : (⟨S10000x128, .f32⟩ : BufTy).Contents (Elt F) → (⟨S10000x128, .f32⟩ : BufTy).Contents (Elt F) → (⟨S10000x128, .f32⟩ : BufTy).Contents (Elt F)),
    unary main_arg13 main_v64 (broadcastInDim S1x128 ![1] bcast_S128_S1x128_1 : (⟨S128, .f32⟩ : BufTy).Contents (Elt F) → (⟨S1x128, .f32⟩ : BufTy).Contents (Elt F)),
    unary main_v64 main_v65 (broadcastInDim S10000x128 ![0, 1] bcast_S1x128_S10000x128_0_1 : (⟨S1x128, .f32⟩ : BufTy).Contents (Elt F) → (⟨S10000x128, .f32⟩ : BufTy).Contents (Elt F)),
    binary main_v63 main_v65 main_v66 (addf : (⟨S10000x128, .f32⟩ : BufTy).Contents (Elt F) → (⟨S10000x128, .f32⟩ : BufTy).Contents (Elt F) → (⟨S10000x128, .f32⟩ : BufTy).Contents (Elt F)) ]

/-- The references these operations write. -/
abbrev wr_norm1 : List (Ref sig .tc) := [main_cst_6, main_v43, main_v44, main_cst_7, main_v45, main_v46, main_v47, main_v48, main_v49, main_cst_8, main_v50, main_v51, main_cst_9, main_v52, main_v53, main_v54, main_v55, main_cst_10, main_v56, main_v57, main_v58, main_v59, main_v60, main_v61, main_v62, main_v63, main_v64, main_v65, main_v66]

/-- A reference they do not write keeps its contents. -/
theorem keep_norm1 (V : Valuation τ sig (Elt F)) (r : Ref sig .tc) (h : r ∉ wr_norm1) :
    after ops_norm1 V (Proc.devRef .tc r) = V (Proc.devRef .tc r) :=
  after_of_writes_sub _ _ (forall_writes_sub_of_map (W := wr_norm1) rfl) h

/-- The operations of @main that make `v67`. -/
abbrev ops_relu1 : List (HloOp τ sig (Elt F)) :=
  [ nullary main_call1_cst (constant S_ .f32 0x00000000#32),
    unary main_call1_cst main_call1_v0 (broadcastInDim S10000x128 ![] bcast_S_S10000x128 : (⟨S_, .f32⟩ : BufTy).Contents (Elt F) → (⟨S10000x128, .f32⟩ : BufTy).Contents (Elt F)),
    binary main_v66 main_call1_v0 main_v67 (maximumf : (⟨S10000x128, .f32⟩ : BufTy).Contents (Elt F) → (⟨S10000x128, .f32⟩ : BufTy).Contents (Elt F) → (⟨S10000x128, .f32⟩ : BufTy).Contents (Elt F)) ]

/-- The references these operations write. -/
abbrev wr_relu1 : List (Ref sig .tc) := [main_call1_cst, main_call1_v0, main_v67]

/-- A reference they do not write keeps its contents. -/
theorem keep_relu1 (V : Valuation τ sig (Elt F)) (r : Ref sig .tc) (h : r ∉ wr_relu1) :
    after ops_relu1 V (Proc.devRef .tc r) = V (Proc.devRef .tc r) :=
  after_of_writes_sub _ _ (forall_writes_sub_of_map (W := wr_relu1) rfl) h

/-- The operations of @main that make `v70`. -/
abbrev ops_res1 : List (HloOp τ sig (Elt F)) :=
  [ nullary main_cst_11 (constant S_ .f32 0x3F4CCCCD#32),
    unary main_cst_11 main_v68 (broadcastInDim S10000x128 ![] bcast_S_S10000x128 : (⟨S_, .f32⟩ : BufTy).Contents (Elt F) → (⟨S10000x128, .f32⟩ : BufTy).Contents (Elt F)),
    binary main_v68 main_v33 main_v69 (mulf : (⟨S10000x128, .f32⟩ : BufTy).Contents (Elt F) → (⟨S10000x128, .f32⟩ : BufTy).Contents (Elt F) → (⟨S10000x128, .f32⟩ : BufTy).Contents (Elt F)),
    binary main_v67 main_v69 main_v70 (addf : (⟨S10000x128, .f32⟩ : BufTy).Contents (Elt F) → (⟨S10000x128, .f32⟩ : BufTy).Contents (Elt F) → (⟨S10000x128, .f32⟩ : BufTy).Contents (Elt F)) ]

/-- The references these operations write. -/
abbrev wr_res1 : List (Ref sig .tc) := [main_cst_11, main_v68, main_v69, main_v70]

/-- A reference they do not write keeps its contents. -/
theorem keep_res1 (V : Valuation τ sig (Elt F)) (r : Ref sig .tc) (h : r ∉ wr_res1) :
    after ops_res1 V (Proc.devRef .tc r) = V (Proc.devRef .tc r) :=
  after_of_writes_sub _ _ (forall_writes_sub_of_map (W := wr_res1) rfl) h

/-- The operations of @main that make `v79`. -/
abbrev ops_pre2 : List (HloOp τ sig (Elt F)) :=
  [ binary main_v70 main_arg6 main_v71 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    binary main_arg1 main_v71 main_v72 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    unary main_arg7 main_v73 (broadcastInDim S1x128 ![1] bcast_S128_S1x128_1 : (⟨S128, .f32⟩ : BufTy).Contents (Elt F) → (⟨S1x128, .f32⟩ : BufTy).Contents (Elt F)),
    unary main_v73 main_v74 (broadcastInDim S10000x128 ![0, 1] bcast_S1x128_S10000x128_0_1 : (⟨S1x128, .f32⟩ : BufTy).Contents (Elt F) → (⟨S10000x128, .f32⟩ : BufTy).Contents (Elt F)),
    binary main_v72 main_v74 main_v75 (addf : (⟨S10000x128, .f32⟩ : BufTy).Contents (Elt F) → (⟨S10000x128, .f32⟩ : BufTy).Contents (Elt F) → (⟨S10000x128, .f32⟩ : BufTy).Contents (Elt F)),
    nullary main_cst_12 (constant S_ .f32 0x3F800054#32),
    unary main_cst_12 main_v76 (Host.sqrt : (⟨S_, .f32⟩ : BufTy).Contents (Elt F) → (⟨S_, .f32⟩ : BufTy).Contents (Elt F)),
    unary main_v76 main_v77 (id : (⟨S_, .f32⟩ : BufTy).Contents (Elt F) → (⟨S_, .f32⟩ : BufTy).Contents (Elt F)),
    unary main_v77 main_v78 (broadcastInDim S10000x128 ![] bcast_S_S10000x128 : (⟨S_, .f32⟩ : BufTy).Contents (Elt F) → (⟨S10000x128, .f32⟩ : BufTy).Contents (Elt F)),
    binary main_v75 main_v78 main_v79 (Host.divf : (⟨S10000x128, .f32⟩ : BufTy).Contents (Elt F) → (⟨S10000x128, .f32⟩ : BufTy).Contents (Elt F) → (⟨S10000x128, .f32⟩ : BufTy).Contents (Elt F)) ]

/-- The references these operations write. -/
abbrev wr_pre2 : List (Ref sig .tc) := [main_v71, main_v72, main_v73, main_v74, main_v75, main_cst_12, main_v76, main_v77, main_v78, main_v79]

/-- A reference they do not write keeps its contents. -/
theorem keep_pre2 (V : Valuation τ sig (Elt F)) (r : Ref sig .tc) (h : r ∉ wr_pre2) :
    after ops_pre2 V (Proc.devRef .tc r) = V (Proc.devRef .tc r) :=
  after_of_writes_sub _ _ (forall_writes_sub_of_map (W := wr_pre2) rfl) h

/-- The operations of @main that make `v103`. -/
abbrev ops_norm2 : List (HloOp τ sig (Elt F)) :=
  [ nullary main_cst_13 (constant S_ .f32 0x00000000#32),
    binary main_v79 main_cst_13 main_v80 ((fun x v => Host.reduceAdd x v reducesTo_S10000x128_S10000_d1 h_S_) : (⟨S10000x128, .f32⟩ : BufTy).Contents (Elt F) → (⟨S_, .f32⟩ : BufTy).Contents (Elt F) → (⟨S10000, .f32⟩ : BufTy).Contents (Elt F)),
    unary main_v80 main_v81 (broadcastInDim S10000x1 ![0] bcast_S10000_S10000x1_0 : (⟨S10000, .f32⟩ : BufTy).Contents (Elt F) → (⟨S10000x1, .f32⟩ : BufTy).Contents (Elt F)),
    nullary main_cst_14 (constant S_ .f32 0x43000000#32),
    unary main_cst_14 main_v82 (broadcastInDim S10000x1 ![] bcast_S_S10000x1 : (⟨S_, .f32⟩ : BufTy).Contents (Elt F) → (⟨S10000x1, .f32⟩ : BufTy).Contents (Elt F)),
    binary main_v81 main_v82 main_v83 (Host.divf : (⟨S10000x1, .f32⟩ : BufTy).Contents (Elt F) → (⟨S10000x1, .f32⟩ : BufTy).Contents (Elt F) → (⟨S10000x1, .f32⟩ : BufTy).Contents (Elt F)),
    unary main_v83 main_v84 (broadcastInDim S10000x128 ![0, 1] bcast_S10000x1_S10000x128_0_1 : (⟨S10000x1, .f32⟩ : BufTy).Contents (Elt F) → (⟨S10000x128, .f32⟩ : BufTy).Contents (Elt F)),
    binary main_v79 main_v84 main_v85 (subf : (⟨S10000x128, .f32⟩ : BufTy).Contents (Elt F) → (⟨S10000x128, .f32⟩ : BufTy).Contents (Elt F) → (⟨S10000x128, .f32⟩ : BufTy).Contents (Elt F)),
    binary main_v85 main_v85 main_v86 (mulf : (⟨S10000x128, .f32⟩ : BufTy).Contents (Elt F) → (⟨S10000x128, .f32⟩ : BufTy).Contents (Elt F) → (⟨S10000x128, .f32⟩ : BufTy).Contents (Elt F)),
    nullary main_cst_15 (constant S_ .f32 0x00000000#32),
    binary main_v86 main_cst_15 main_v87 ((fun x v => Host.reduceAdd x v reducesTo_S10000x128_S10000_d1 h_S_) : (⟨S10000x128, .f32⟩ : BufTy).Contents (Elt F) → (⟨S_, .f32⟩ : BufTy).Contents (Elt F) → (⟨S10000, .f32⟩ : BufTy).Contents (Elt F)),
    unary main_v87 main_v88 (broadcastInDim S10000x1 ![0] bcast_S10000_S10000x1_0 : (⟨S10000, .f32⟩ : BufTy).Contents (Elt F) → (⟨S10000x1, .f32⟩ : BufTy).Contents (Elt F)),
    nullary main_cst_16 (constant S_ .f32 0x43000000#32),
    unary main_cst_16 main_v89 (broadcastInDim S10000x1 ![] bcast_S_S10000x1 : (⟨S_, .f32⟩ : BufTy).Contents (Elt F) → (⟨S10000x1, .f32⟩ : BufTy).Contents (Elt F)),
    binary main_v88 main_v89 main_v90 (Host.divf : (⟨S10000x1, .f32⟩ : BufTy).Contents (Elt F) → (⟨S10000x1, .f32⟩ : BufTy).Contents (Elt F) → (⟨S10000x1, .f32⟩ : BufTy).Contents (Elt F)),
    unary main_v83 main_v91 (broadcastInDim S10000x128 ![0, 1] bcast_S10000x1_S10000x128_0_1 : (⟨S10000x1, .f32⟩ : BufTy).Contents (Elt F) → (⟨S10000x128, .f32⟩ : BufTy).Contents (Elt F)),
    binary main_v79 main_v91 main_v92 (subf : (⟨S10000x128, .f32⟩ : BufTy).Contents (Elt F) → (⟨S10000x128, .f32⟩ : BufTy).Contents (Elt F) → (⟨S10000x128, .f32⟩ : BufTy).Contents (Elt F)),
    nullary main_cst_17 (constant S_ .f32 0x3727C5AC#32),
    unary main_cst_17 main_v93 (broadcastInDim S10000x1 ![] bcast_S_S10000x1 : (⟨S_, .f32⟩ : BufTy).Contents (Elt F) → (⟨S10000x1, .f32⟩ : BufTy).Contents (Elt F)),
    binary main_v90 main_v93 main_v94 (addf : (⟨S10000x1, .f32⟩ : BufTy).Contents (Elt F) → (⟨S10000x1, .f32⟩ : BufTy).Contents (Elt F) → (⟨S10000x1, .f32⟩ : BufTy).Contents (Elt F)),
    unary main_v94 main_v95 (Host.sqrt : (⟨S10000x1, .f32⟩ : BufTy).Contents (Elt F) → (⟨S10000x1, .f32⟩ : BufTy).Contents (Elt F)),
    unary main_v95 main_v96 (broadcastInDim S10000x128 ![0, 1] bcast_S10000x1_S10000x128_0_1 : (⟨S10000x1, .f32⟩ : BufTy).Contents (Elt F) → (⟨S10000x128, .f32⟩ : BufTy).Contents (Elt F)),
    binary main_v92 main_v96 main_v97 (Host.divf : (⟨S10000x128, .f32⟩ : BufTy).Contents (Elt F) → (⟨S10000x128, .f32⟩ : BufTy).Contents (Elt F) → (⟨S10000x128, .f32⟩ : BufTy).Contents (Elt F)),
    unary main_arg14 main_v98 (broadcastInDim S1x128 ![1] bcast_S128_S1x128_1 : (⟨S128, .f32⟩ : BufTy).Contents (Elt F) → (⟨S1x128, .f32⟩ : BufTy).Contents (Elt F)),
    unary main_v98 main_v99 (broadcastInDim S10000x128 ![0, 1] bcast_S1x128_S10000x128_0_1 : (⟨S1x128, .f32⟩ : BufTy).Contents (Elt F) → (⟨S10000x128, .f32⟩ : BufTy).Contents (Elt F)),
    binary main_v97 main_v99 main_v100 (mulf : (⟨S10000x128, .f32⟩ : BufTy).Contents (Elt F) → (⟨S10000x128, .f32⟩ : BufTy).Contents (Elt F) → (⟨S10000x128, .f32⟩ : BufTy).Contents (Elt F)),
    unary main_arg15 main_v101 (broadcastInDim S1x128 ![1] bcast_S128_S1x128_1 : (⟨S128, .f32⟩ : BufTy).Contents (Elt F) → (⟨S1x128, .f32⟩ : BufTy).Contents (Elt F)),
    unary main_v101 main_v102 (broadcastInDim S10000x128 ![0, 1] bcast_S1x128_S10000x128_0_1 : (⟨S1x128, .f32⟩ : BufTy).Contents (Elt F) → (⟨S10000x128, .f32⟩ : BufTy).Contents (Elt F)),
    binary main_v100 main_v102 main_v103 (addf : (⟨S10000x128, .f32⟩ : BufTy).Contents (Elt F) → (⟨S10000x128, .f32⟩ : BufTy).Contents (Elt F) → (⟨S10000x128, .f32⟩ : BufTy).Contents (Elt F)) ]

/-- The references these operations write. -/
abbrev wr_norm2 : List (Ref sig .tc) := [main_cst_13, main_v80, main_v81, main_cst_14, main_v82, main_v83, main_v84, main_v85, main_v86, main_cst_15, main_v87, main_v88, main_cst_16, main_v89, main_v90, main_v91, main_v92, main_cst_17, main_v93, main_v94, main_v95, main_v96, main_v97, main_v98, main_v99, main_v100, main_v101, main_v102, main_v103]

/-- A reference they do not write keeps its contents. -/
theorem keep_norm2 (V : Valuation τ sig (Elt F)) (r : Ref sig .tc) (h : r ∉ wr_norm2) :
    after ops_norm2 V (Proc.devRef .tc r) = V (Proc.devRef .tc r) :=
  after_of_writes_sub _ _ (forall_writes_sub_of_map (W := wr_norm2) rfl) h

/-- The operations of @main that make `v104`. -/
abbrev ops_relu2 : List (HloOp τ sig (Elt F)) :=
  [ nullary main_call2_cst (constant S_ .f32 0x00000000#32),
    unary main_call2_cst main_call2_v0 (broadcastInDim S10000x128 ![] bcast_S_S10000x128 : (⟨S_, .f32⟩ : BufTy).Contents (Elt F) → (⟨S10000x128, .f32⟩ : BufTy).Contents (Elt F)),
    binary main_v103 main_call2_v0 main_v104 (maximumf : (⟨S10000x128, .f32⟩ : BufTy).Contents (Elt F) → (⟨S10000x128, .f32⟩ : BufTy).Contents (Elt F) → (⟨S10000x128, .f32⟩ : BufTy).Contents (Elt F)) ]

/-- The references these operations write. -/
abbrev wr_relu2 : List (Ref sig .tc) := [main_call2_cst, main_call2_v0, main_v104]

/-- A reference they do not write keeps its contents. -/
theorem keep_relu2 (V : Valuation τ sig (Elt F)) (r : Ref sig .tc) (h : r ∉ wr_relu2) :
    after ops_relu2 V (Proc.devRef .tc r) = V (Proc.devRef .tc r) :=
  after_of_writes_sub _ _ (forall_writes_sub_of_map (W := wr_relu2) rfl) h

/-- The operations of @main that make `v107`. -/
abbrev ops_res2 : List (HloOp τ sig (Elt F)) :=
  [ nullary main_cst_18 (constant S_ .f32 0x3F4CCCCD#32),
    unary main_cst_18 main_v105 (broadcastInDim S10000x128 ![] bcast_S_S10000x128 : (⟨S_, .f32⟩ : BufTy).Contents (Elt F) → (⟨S10000x128, .f32⟩ : BufTy).Contents (Elt F)),
    binary main_v105 main_v70 main_v106 (mulf : (⟨S10000x128, .f32⟩ : BufTy).Contents (Elt F) → (⟨S10000x128, .f32⟩ : BufTy).Contents (Elt F) → (⟨S10000x128, .f32⟩ : BufTy).Contents (Elt F)),
    binary main_v104 main_v106 main_v107 (addf : (⟨S10000x128, .f32⟩ : BufTy).Contents (Elt F) → (⟨S10000x128, .f32⟩ : BufTy).Contents (Elt F) → (⟨S10000x128, .f32⟩ : BufTy).Contents (Elt F)) ]

/-- The references these operations write. -/
abbrev wr_res2 : List (Ref sig .tc) := [main_cst_18, main_v105, main_v106, main_v107]

/-- A reference they do not write keeps its contents. -/
theorem keep_res2 (V : Valuation τ sig (Elt F)) (r : Ref sig .tc) (h : r ∉ wr_res2) :
    after ops_res2 V (Proc.devRef .tc r) = V (Proc.devRef .tc r) :=
  after_of_writes_sub _ _ (forall_writes_sub_of_map (W := wr_res2) rfl) h

/-- The operations of @main that make `v116`. -/
abbrev ops_pre3 : List (HloOp τ sig (Elt F)) :=
  [ binary main_v107 main_arg8 main_v108 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    binary main_arg1 main_v108 main_v109 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    unary main_arg9 main_v110 (broadcastInDim S1x128 ![1] bcast_S128_S1x128_1 : (⟨S128, .f32⟩ : BufTy).Contents (Elt F) → (⟨S1x128, .f32⟩ : BufTy).Contents (Elt F)),
    unary main_v110 main_v111 (broadcastInDim S10000x128 ![0, 1] bcast_S1x128_S10000x128_0_1 : (⟨S1x128, .f32⟩ : BufTy).Contents (Elt F) → (⟨S10000x128, .f32⟩ : BufTy).Contents (Elt F)),
    binary main_v109 main_v111 main_v112 (addf : (⟨S10000x128, .f32⟩ : BufTy).Contents (Elt F) → (⟨S10000x128, .f32⟩ : BufTy).Contents (Elt F) → (⟨S10000x128, .f32⟩ : BufTy).Contents (Elt F)),
    nullary main_cst_19 (constant S_ .f32 0x3F800054#32),
    unary main_cst_19 main_v113 (Host.sqrt : (⟨S_, .f32⟩ : BufTy).Contents (Elt F) → (⟨S_, .f32⟩ : BufTy).Contents (Elt F)),
    unary main_v113 main_v114 (id : (⟨S_, .f32⟩ : BufTy).Contents (Elt F) → (⟨S_, .f32⟩ : BufTy).Contents (Elt F)),
    unary main_v114 main_v115 (broadcastInDim S10000x128 ![] bcast_S_S10000x128 : (⟨S_, .f32⟩ : BufTy).Contents (Elt F) → (⟨S10000x128, .f32⟩ : BufTy).Contents (Elt F)),
    binary main_v112 main_v115 main_v116 (Host.divf : (⟨S10000x128, .f32⟩ : BufTy).Contents (Elt F) → (⟨S10000x128, .f32⟩ : BufTy).Contents (Elt F) → (⟨S10000x128, .f32⟩ : BufTy).Contents (Elt F)) ]

/-- The references these operations write. -/
abbrev wr_pre3 : List (Ref sig .tc) := [main_v108, main_v109, main_v110, main_v111, main_v112, main_cst_19, main_v113, main_v114, main_v115, main_v116]

/-- A reference they do not write keeps its contents. -/
theorem keep_pre3 (V : Valuation τ sig (Elt F)) (r : Ref sig .tc) (h : r ∉ wr_pre3) :
    after ops_pre3 V (Proc.devRef .tc r) = V (Proc.devRef .tc r) :=
  after_of_writes_sub _ _ (forall_writes_sub_of_map (W := wr_pre3) rfl) h

/-- The operations of @main that make `v140`. -/
abbrev ops_norm3 : List (HloOp τ sig (Elt F)) :=
  [ nullary main_cst_20 (constant S_ .f32 0x00000000#32),
    binary main_v116 main_cst_20 main_v117 ((fun x v => Host.reduceAdd x v reducesTo_S10000x128_S10000_d1 h_S_) : (⟨S10000x128, .f32⟩ : BufTy).Contents (Elt F) → (⟨S_, .f32⟩ : BufTy).Contents (Elt F) → (⟨S10000, .f32⟩ : BufTy).Contents (Elt F)),
    unary main_v117 main_v118 (broadcastInDim S10000x1 ![0] bcast_S10000_S10000x1_0 : (⟨S10000, .f32⟩ : BufTy).Contents (Elt F) → (⟨S10000x1, .f32⟩ : BufTy).Contents (Elt F)),
    nullary main_cst_21 (constant S_ .f32 0x43000000#32),
    unary main_cst_21 main_v119 (broadcastInDim S10000x1 ![] bcast_S_S10000x1 : (⟨S_, .f32⟩ : BufTy).Contents (Elt F) → (⟨S10000x1, .f32⟩ : BufTy).Contents (Elt F)),
    binary main_v118 main_v119 main_v120 (Host.divf : (⟨S10000x1, .f32⟩ : BufTy).Contents (Elt F) → (⟨S10000x1, .f32⟩ : BufTy).Contents (Elt F) → (⟨S10000x1, .f32⟩ : BufTy).Contents (Elt F)),
    unary main_v120 main_v121 (broadcastInDim S10000x128 ![0, 1] bcast_S10000x1_S10000x128_0_1 : (⟨S10000x1, .f32⟩ : BufTy).Contents (Elt F) → (⟨S10000x128, .f32⟩ : BufTy).Contents (Elt F)),
    binary main_v116 main_v121 main_v122 (subf : (⟨S10000x128, .f32⟩ : BufTy).Contents (Elt F) → (⟨S10000x128, .f32⟩ : BufTy).Contents (Elt F) → (⟨S10000x128, .f32⟩ : BufTy).Contents (Elt F)),
    binary main_v122 main_v122 main_v123 (mulf : (⟨S10000x128, .f32⟩ : BufTy).Contents (Elt F) → (⟨S10000x128, .f32⟩ : BufTy).Contents (Elt F) → (⟨S10000x128, .f32⟩ : BufTy).Contents (Elt F)),
    nullary main_cst_22 (constant S_ .f32 0x00000000#32),
    binary main_v123 main_cst_22 main_v124 ((fun x v => Host.reduceAdd x v reducesTo_S10000x128_S10000_d1 h_S_) : (⟨S10000x128, .f32⟩ : BufTy).Contents (Elt F) → (⟨S_, .f32⟩ : BufTy).Contents (Elt F) → (⟨S10000, .f32⟩ : BufTy).Contents (Elt F)),
    unary main_v124 main_v125 (broadcastInDim S10000x1 ![0] bcast_S10000_S10000x1_0 : (⟨S10000, .f32⟩ : BufTy).Contents (Elt F) → (⟨S10000x1, .f32⟩ : BufTy).Contents (Elt F)),
    nullary main_cst_23 (constant S_ .f32 0x43000000#32),
    unary main_cst_23 main_v126 (broadcastInDim S10000x1 ![] bcast_S_S10000x1 : (⟨S_, .f32⟩ : BufTy).Contents (Elt F) → (⟨S10000x1, .f32⟩ : BufTy).Contents (Elt F)),
    binary main_v125 main_v126 main_v127 (Host.divf : (⟨S10000x1, .f32⟩ : BufTy).Contents (Elt F) → (⟨S10000x1, .f32⟩ : BufTy).Contents (Elt F) → (⟨S10000x1, .f32⟩ : BufTy).Contents (Elt F)),
    unary main_v120 main_v128 (broadcastInDim S10000x128 ![0, 1] bcast_S10000x1_S10000x128_0_1 : (⟨S10000x1, .f32⟩ : BufTy).Contents (Elt F) → (⟨S10000x128, .f32⟩ : BufTy).Contents (Elt F)),
    binary main_v116 main_v128 main_v129 (subf : (⟨S10000x128, .f32⟩ : BufTy).Contents (Elt F) → (⟨S10000x128, .f32⟩ : BufTy).Contents (Elt F) → (⟨S10000x128, .f32⟩ : BufTy).Contents (Elt F)),
    nullary main_cst_24 (constant S_ .f32 0x3727C5AC#32),
    unary main_cst_24 main_v130 (broadcastInDim S10000x1 ![] bcast_S_S10000x1 : (⟨S_, .f32⟩ : BufTy).Contents (Elt F) → (⟨S10000x1, .f32⟩ : BufTy).Contents (Elt F)),
    binary main_v127 main_v130 main_v131 (addf : (⟨S10000x1, .f32⟩ : BufTy).Contents (Elt F) → (⟨S10000x1, .f32⟩ : BufTy).Contents (Elt F) → (⟨S10000x1, .f32⟩ : BufTy).Contents (Elt F)),
    unary main_v131 main_v132 (Host.sqrt : (⟨S10000x1, .f32⟩ : BufTy).Contents (Elt F) → (⟨S10000x1, .f32⟩ : BufTy).Contents (Elt F)),
    unary main_v132 main_v133 (broadcastInDim S10000x128 ![0, 1] bcast_S10000x1_S10000x128_0_1 : (⟨S10000x1, .f32⟩ : BufTy).Contents (Elt F) → (⟨S10000x128, .f32⟩ : BufTy).Contents (Elt F)),
    binary main_v129 main_v133 main_v134 (Host.divf : (⟨S10000x128, .f32⟩ : BufTy).Contents (Elt F) → (⟨S10000x128, .f32⟩ : BufTy).Contents (Elt F) → (⟨S10000x128, .f32⟩ : BufTy).Contents (Elt F)),
    unary main_arg16 main_v135 (broadcastInDim S1x128 ![1] bcast_S128_S1x128_1 : (⟨S128, .f32⟩ : BufTy).Contents (Elt F) → (⟨S1x128, .f32⟩ : BufTy).Contents (Elt F)),
    unary main_v135 main_v136 (broadcastInDim S10000x128 ![0, 1] bcast_S1x128_S10000x128_0_1 : (⟨S1x128, .f32⟩ : BufTy).Contents (Elt F) → (⟨S10000x128, .f32⟩ : BufTy).Contents (Elt F)),
    binary main_v134 main_v136 main_v137 (mulf : (⟨S10000x128, .f32⟩ : BufTy).Contents (Elt F) → (⟨S10000x128, .f32⟩ : BufTy).Contents (Elt F) → (⟨S10000x128, .f32⟩ : BufTy).Contents (Elt F)),
    unary main_arg17 main_v138 (broadcastInDim S1x128 ![1] bcast_S128_S1x128_1 : (⟨S128, .f32⟩ : BufTy).Contents (Elt F) → (⟨S1x128, .f32⟩ : BufTy).Contents (Elt F)),
    unary main_v138 main_v139 (broadcastInDim S10000x128 ![0, 1] bcast_S1x128_S10000x128_0_1 : (⟨S1x128, .f32⟩ : BufTy).Contents (Elt F) → (⟨S10000x128, .f32⟩ : BufTy).Contents (Elt F)),
    binary main_v137 main_v139 main_v140 (addf : (⟨S10000x128, .f32⟩ : BufTy).Contents (Elt F) → (⟨S10000x128, .f32⟩ : BufTy).Contents (Elt F) → (⟨S10000x128, .f32⟩ : BufTy).Contents (Elt F)) ]

/-- The references these operations write. -/
abbrev wr_norm3 : List (Ref sig .tc) := [main_cst_20, main_v117, main_v118, main_cst_21, main_v119, main_v120, main_v121, main_v122, main_v123, main_cst_22, main_v124, main_v125, main_cst_23, main_v126, main_v127, main_v128, main_v129, main_cst_24, main_v130, main_v131, main_v132, main_v133, main_v134, main_v135, main_v136, main_v137, main_v138, main_v139, main_v140]

/-- A reference they do not write keeps its contents. -/
theorem keep_norm3 (V : Valuation τ sig (Elt F)) (r : Ref sig .tc) (h : r ∉ wr_norm3) :
    after ops_norm3 V (Proc.devRef .tc r) = V (Proc.devRef .tc r) :=
  after_of_writes_sub _ _ (forall_writes_sub_of_map (W := wr_norm3) rfl) h

/-- The operations of @main that make `v143`. -/
abbrev ops_res3 : List (HloOp τ sig (Elt F)) :=
  [ nullary main_cst_25 (constant S_ .f32 0x3E4CCCCD#32),
    unary main_cst_25 main_v141 (broadcastInDim S10000x128 ![] bcast_S_S10000x128 : (⟨S_, .f32⟩ : BufTy).Contents (Elt F) → (⟨S10000x128, .f32⟩ : BufTy).Contents (Elt F)),
    binary main_v141 main_arg0 main_v142 (mulf : (⟨S10000x128, .f32⟩ : BufTy).Contents (Elt F) → (⟨S10000x128, .f32⟩ : BufTy).Contents (Elt F) → (⟨S10000x128, .f32⟩ : BufTy).Contents (Elt F)),
    binary main_v140 main_v142 main_v143 (addf : (⟨S10000x128, .f32⟩ : BufTy).Contents (Elt F) → (⟨S10000x128, .f32⟩ : BufTy).Contents (Elt F) → (⟨S10000x128, .f32⟩ : BufTy).Contents (Elt F)) ]

/-- The references these operations write. -/
abbrev wr_res3 : List (Ref sig .tc) := [main_cst_25, main_v141, main_v142, main_v143]

/-- A reference they do not write keeps its contents. -/
theorem keep_res3 (V : Valuation τ sig (Elt F)) (r : Ref sig .tc) (h : r ∉ wr_res3) :
    after ops_res3 V (Proc.devRef .tc r) = V (Proc.devRef .tc r) :=
  after_of_writes_sub _ _ (forall_writes_sub_of_map (W := wr_res3) rfl) h

/-- What they leave in the last one. -/
theorem at_pre0 (V : Valuation τ sig (Elt F)) : after ops_pre0 V (Proc.devRef .tc main_v8) = conv (V (Proc.devRef .tc main_arg1)) (V (Proc.devRef .tc main_arg0)) (V (Proc.devRef .tc main_arg2)) (V (Proc.devRef .tc main_arg3)) := by
  after_results_simp
  rfl

/-- What they leave in the last one. -/
theorem at_norm0 (V : Valuation τ sig (Elt F)) : after ops_norm0 V (Proc.devRef .tc main_v32) = norm (V (Proc.devRef .tc main_v8)) (V (Proc.devRef .tc main_arg10)) (V (Proc.devRef .tc main_arg11)) := by
  after_results_simp
  rfl

/-- What they leave in the last one. -/
theorem at_relu0 (V : Valuation τ sig (Elt F)) : after ops_relu0 V (Proc.devRef .tc main_v33) = relu (V (Proc.devRef .tc main_v32)) := by
  after_results_simp
  rfl

/-- What they leave in the last one. -/
theorem at_pre1 (V : Valuation τ sig (Elt F)) : after ops_pre1 V (Proc.devRef .tc main_v42) = conv (V (Proc.devRef .tc main_arg1)) (V (Proc.devRef .tc main_v33)) (V (Proc.devRef .tc main_arg4)) (V (Proc.devRef .tc main_arg5)) := by
  after_results_simp
  rfl

/-- What they leave in the last one. -/
theorem at_norm1 (V : Valuation τ sig (Elt F)) : after ops_norm1 V (Proc.devRef .tc main_v66) = norm (V (Proc.devRef .tc main_v42)) (V (Proc.devRef .tc main_arg12)) (V (Proc.devRef .tc main_arg13)) := by
  after_results_simp
  rfl

/-- What they leave in the last one. -/
theorem at_relu1 (V : Valuation τ sig (Elt F)) : after ops_relu1 V (Proc.devRef .tc main_v67) = relu (V (Proc.devRef .tc main_v66)) := by
  after_results_simp
  rfl

/-- What they leave in the last one. -/
theorem at_pre2 (V : Valuation τ sig (Elt F)) : after ops_pre2 V (Proc.devRef .tc main_v79) = conv (V (Proc.devRef .tc main_arg1)) (V (Proc.devRef .tc main_v70)) (V (Proc.devRef .tc main_arg6)) (V (Proc.devRef .tc main_arg7)) := by
  after_results_simp
  rfl

/-- What they leave in the last one. -/
theorem at_norm2 (V : Valuation τ sig (Elt F)) : after ops_norm2 V (Proc.devRef .tc main_v103) = norm (V (Proc.devRef .tc main_v79)) (V (Proc.devRef .tc main_arg14)) (V (Proc.devRef .tc main_arg15)) := by
  after_results_simp
  rfl

/-- What they leave in the last one. -/
theorem at_relu2 (V : Valuation τ sig (Elt F)) : after ops_relu2 V (Proc.devRef .tc main_v104) = relu (V (Proc.devRef .tc main_v103)) := by
  after_results_simp
  rfl

/-- What they leave in the last one. -/
theorem at_pre3 (V : Valuation τ sig (Elt F)) : after ops_pre3 V (Proc.devRef .tc main_v116) = conv (V (Proc.devRef .tc main_arg1)) (V (Proc.devRef .tc main_v107)) (V (Proc.devRef .tc main_arg8)) (V (Proc.devRef .tc main_arg9)) := by
  after_results_simp
  rfl

/-- What they leave in the last one. -/
theorem at_norm3 (V : Valuation τ sig (Elt F)) : after ops_norm3 V (Proc.devRef .tc main_v140) = norm (V (Proc.devRef .tc main_v116)) (V (Proc.devRef .tc main_arg16)) (V (Proc.devRef .tc main_arg17)) := by
  after_results_simp
  rfl

/-- What they leave in the last one. -/
theorem at_res1 (V : Valuation τ sig (Elt F)) : after ops_res1 V (Proc.devRef .tc main_v70) = plus 0x3F4CCCCD#32 (V (Proc.devRef .tc main_v67)) (V (Proc.devRef .tc main_v33)) := by
  after_results_simp
  rfl

/-- What they leave in the last one. -/
theorem at_res2 (V : Valuation τ sig (Elt F)) : after ops_res2 V (Proc.devRef .tc main_v107) = plus 0x3F4CCCCD#32 (V (Proc.devRef .tc main_v104)) (V (Proc.devRef .tc main_v70)) := by
  after_results_simp
  rfl

/-- What they leave in the last one. -/
theorem at_res3 (V : Valuation τ sig (Elt F)) : after ops_res3 V (Proc.devRef .tc main_v143) = plus 0x3E4CCCCD#32 (V (Proc.devRef .tc main_v140)) (V (Proc.devRef .tc main_arg0)) := by
  after_results_simp
  rfl

/-- @main's operations. -/
abbrev ops : List (HloOp τ sig (Elt F)) := ops_pre0 ++ (ops_norm0 ++ (ops_relu0 ++ (ops_pre1 ++ (ops_norm1 ++ (ops_relu1 ++ (ops_res1 ++ (ops_pre2 ++ (ops_norm2 ++ (ops_relu2 ++ (ops_res2 ++ (ops_pre3 ++ (ops_norm3 ++ (ops_res3)))))))))))))

/-- The operations of window 0 of @main. -/
abbrev win0 : List (HloOp τ sig (Elt F)) := (ops.drop 0).take 62

/-- Window 0 of @main is their straight line. -/
theorem win0_eq (c : Dev nD) : main_part0 (F := F) c = seq win0 := rfl

/-- The operations of window 1 of @main. -/
abbrev win1 : List (HloOp τ sig (Elt F)) := (ops.drop 62).take 62

/-- Window 1 of @main is their straight line. -/
theorem win1_eq (c : Dev nD) : main_part1 (F := F) c = seq win1 := rfl

/-- The operations of window 2 of @main. -/
abbrev win2 : List (HloOp τ sig (Elt F)) := (ops.drop 124).take 53

/-- Window 2 of @main is their straight line. -/
theorem win2_eq (c : Dev nD) : main_part2 (F := F) c = seq win2 := rfl

/-- @main is the straight line of all of them. -/
theorem main_eq (c : Dev nD) : main (F := F) c = seq ops := by
  rw [show (ops : List (HloOp τ sig (Elt F))) = win0 ++ (win1 ++ win2) from rfl, seq_append, seq_append, ← win0_eq c, ← win1_eq c, ← win2_eq c]
  rfl

/-- These operations touch TensorCore references only. -/
theorem sub_pre0 : (ops_pre0 : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., unary_bufs_sub .., unary_bufs_sub .., binary_bufs_sub ..⟩

/-- These operations leave no buffer at unknown contents. -/
theorem fresh_pre0 : (ops_pre0 : List (HloOp τ sig (Elt F))).Forall fun op => op.fresh = ∅ :=
  ⟨rfl, rfl, rfl, rfl, rfl, rfl, rfl, rfl, rfl, rfl⟩

/-- These operations touch TensorCore references only. -/
theorem sub_norm0 : (ops_norm0 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

/-- These operations leave no buffer at unknown contents. -/
theorem fresh_norm0 : (ops_norm0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl⟩

/-- These operations touch TensorCore references only. -/
theorem sub_relu0 : (ops_relu0 : List (HloOp τ sig (Elt F))).Forall fun op => op.bufs ⊆ tcRefs τ sig :=
  ⟨nullary_bufs_sub .., unary_bufs_sub .., binary_bufs_sub ..⟩

/-- These operations leave no buffer at unknown contents. -/
theorem fresh_relu0 : (ops_relu0 : List (HloOp τ sig (Elt F))).Forall fun op => op.fresh = ∅ :=
  ⟨rfl, rfl, rfl⟩

/-- These operations touch TensorCore references only. -/
theorem sub_pre1 : (ops_pre1 : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., unary_bufs_sub .., unary_bufs_sub .., binary_bufs_sub ..⟩

/-- These operations leave no buffer at unknown contents. -/
theorem fresh_pre1 : (ops_pre1 : List (HloOp τ sig (Elt F))).Forall fun op => op.fresh = ∅ :=
  ⟨rfl, rfl, rfl, rfl, rfl, rfl, rfl, rfl, rfl, rfl⟩

/-- These operations touch TensorCore references only. -/
theorem sub_norm1 : (ops_norm1 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

/-- These operations leave no buffer at unknown contents. -/
theorem fresh_norm1 : (ops_norm1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl⟩

/-- These operations touch TensorCore references only. -/
theorem sub_relu1 : (ops_relu1 : List (HloOp τ sig (Elt F))).Forall fun op => op.bufs ⊆ tcRefs τ sig :=
  ⟨nullary_bufs_sub .., unary_bufs_sub .., binary_bufs_sub ..⟩

/-- These operations leave no buffer at unknown contents. -/
theorem fresh_relu1 : (ops_relu1 : List (HloOp τ sig (Elt F))).Forall fun op => op.fresh = ∅ :=
  ⟨rfl, rfl, rfl⟩

/-- These operations touch TensorCore references only. -/
theorem sub_res1 : (ops_res1 : List (HloOp τ sig (Elt F))).Forall fun op => op.bufs ⊆ tcRefs τ sig :=
  ⟨nullary_bufs_sub .., unary_bufs_sub .., binary_bufs_sub .., binary_bufs_sub ..⟩

/-- These operations leave no buffer at unknown contents. -/
theorem fresh_res1 : (ops_res1 : List (HloOp τ sig (Elt F))).Forall fun op => op.fresh = ∅ :=
  ⟨rfl, rfl, rfl, rfl⟩

/-- These operations touch TensorCore references only. -/
theorem sub_pre2 : (ops_pre2 : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., unary_bufs_sub .., unary_bufs_sub .., binary_bufs_sub ..⟩

/-- These operations leave no buffer at unknown contents. -/
theorem fresh_pre2 : (ops_pre2 : List (HloOp τ sig (Elt F))).Forall fun op => op.fresh = ∅ :=
  ⟨rfl, rfl, rfl, rfl, rfl, rfl, rfl, rfl, rfl, rfl⟩

/-- These operations touch TensorCore references only. -/
theorem sub_norm2 : (ops_norm2 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

/-- These operations leave no buffer at unknown contents. -/
theorem fresh_norm2 : (ops_norm2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl⟩

/-- These operations touch TensorCore references only. -/
theorem sub_relu2 : (ops_relu2 : List (HloOp τ sig (Elt F))).Forall fun op => op.bufs ⊆ tcRefs τ sig :=
  ⟨nullary_bufs_sub .., unary_bufs_sub .., binary_bufs_sub ..⟩

/-- These operations leave no buffer at unknown contents. -/
theorem fresh_relu2 : (ops_relu2 : List (HloOp τ sig (Elt F))).Forall fun op => op.fresh = ∅ :=
  ⟨rfl, rfl, rfl⟩

/-- These operations touch TensorCore references only. -/
theorem sub_res2 : (ops_res2 : List (HloOp τ sig (Elt F))).Forall fun op => op.bufs ⊆ tcRefs τ sig :=
  ⟨nullary_bufs_sub .., unary_bufs_sub .., binary_bufs_sub .., binary_bufs_sub ..⟩

/-- These operations leave no buffer at unknown contents. -/
theorem fresh_res2 : (ops_res2 : List (HloOp τ sig (Elt F))).Forall fun op => op.fresh = ∅ :=
  ⟨rfl, rfl, rfl, rfl⟩

/-- These operations touch TensorCore references only. -/
theorem sub_pre3 : (ops_pre3 : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., unary_bufs_sub .., unary_bufs_sub .., binary_bufs_sub ..⟩

/-- These operations leave no buffer at unknown contents. -/
theorem fresh_pre3 : (ops_pre3 : List (HloOp τ sig (Elt F))).Forall fun op => op.fresh = ∅ :=
  ⟨rfl, rfl, rfl, rfl, rfl, rfl, rfl, rfl, rfl, rfl⟩

/-- These operations touch TensorCore references only. -/
theorem sub_norm3 : (ops_norm3 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

/-- These operations leave no buffer at unknown contents. -/
theorem fresh_norm3 : (ops_norm3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl⟩

/-- These operations touch TensorCore references only. -/
theorem sub_res3 : (ops_res3 : List (HloOp τ sig (Elt F))).Forall fun op => op.bufs ⊆ tcRefs τ sig :=
  ⟨nullary_bufs_sub .., unary_bufs_sub .., binary_bufs_sub .., binary_bufs_sub ..⟩

/-- These operations leave no buffer at unknown contents. -/
theorem fresh_res3 : (ops_res3 : List (HloOp τ sig (Elt F))).Forall fun op => op.fresh = ∅ :=
  ⟨rfl, rfl, rfl, rfl⟩

/-- Every operation touches TensorCore references only. -/
theorem ops_sub : (ops : List (HloOp τ sig (Elt F))).Forall fun op => op.bufs ⊆ tcRefs τ sig :=
  List.forall_append.mpr <| And.intro sub_pre0 <| List.forall_append.mpr <| And.intro sub_norm0 <| List.forall_append.mpr <| And.intro sub_relu0 <| List.forall_append.mpr <| And.intro sub_pre1 <| List.forall_append.mpr <| And.intro sub_norm1 <| List.forall_append.mpr <| And.intro sub_relu1 <| List.forall_append.mpr <| And.intro sub_res1 <| List.forall_append.mpr <| And.intro sub_pre2 <| List.forall_append.mpr <| And.intro sub_norm2 <| List.forall_append.mpr <| And.intro sub_relu2 <| List.forall_append.mpr <| And.intro sub_res2 <| List.forall_append.mpr <| And.intro sub_pre3 <| List.forall_append.mpr <| And.intro sub_norm3 sub_res3

/-- No operation leaves a buffer at unknown contents. -/
theorem ops_fresh : (ops : List (HloOp τ sig (Elt F))).Forall fun op => op.fresh = ∅ :=
  List.forall_append.mpr <| And.intro fresh_pre0 <| List.forall_append.mpr <| And.intro fresh_norm0 <| List.forall_append.mpr <| And.intro fresh_relu0 <| List.forall_append.mpr <| And.intro fresh_pre1 <| List.forall_append.mpr <| And.intro fresh_norm1 <| List.forall_append.mpr <| And.intro fresh_relu1 <| List.forall_append.mpr <| And.intro fresh_res1 <| List.forall_append.mpr <| And.intro fresh_pre2 <| List.forall_append.mpr <| And.intro fresh_norm2 <| List.forall_append.mpr <| And.intro fresh_relu2 <| List.forall_append.mpr <| And.intro fresh_res2 <| List.forall_append.mpr <| And.intro fresh_pre3 <| List.forall_append.mpr <| And.intro fresh_norm3 fresh_res3

/-- Nothing is scoped on this signature. -/
theorem no_scoped_refs : (Finset.univ.filter fun b : Ref sig .tc => b.isScoped) = ∅ := by decide
/-- No semaphore is scoped on this signature. -/
theorem no_scoped_sems : (Finset.univ.filter fun sm : SemLoc sig => sm.isScoped .tc) = ∅ := by decide

/-- The contents before the first piece. -/
def st0 (V : Valuation τ sig (Elt F)) : Valuation τ sig (Elt F) := V

/-- The contents after the first 1 pieces. -/
def st1 (V : Valuation τ sig (Elt F)) : Valuation τ sig (Elt F) := after ops_pre0 (st0 V)

/-- The contents after the first 2 pieces. -/
def st2 (V : Valuation τ sig (Elt F)) : Valuation τ sig (Elt F) := after ops_norm0 (st1 V)

/-- The contents after the first 3 pieces. -/
def st3 (V : Valuation τ sig (Elt F)) : Valuation τ sig (Elt F) := after ops_relu0 (st2 V)

/-- The contents after the first 4 pieces. -/
def st4 (V : Valuation τ sig (Elt F)) : Valuation τ sig (Elt F) := after ops_pre1 (st3 V)

/-- The contents after the first 5 pieces. -/
def st5 (V : Valuation τ sig (Elt F)) : Valuation τ sig (Elt F) := after ops_norm1 (st4 V)

/-- The contents after the first 6 pieces. -/
def st6 (V : Valuation τ sig (Elt F)) : Valuation τ sig (Elt F) := after ops_relu1 (st5 V)

/-- The contents after the first 7 pieces. -/
def st7 (V : Valuation τ sig (Elt F)) : Valuation τ sig (Elt F) := after ops_res1 (st6 V)

/-- The contents after the first 8 pieces. -/
def st8 (V : Valuation τ sig (Elt F)) : Valuation τ sig (Elt F) := after ops_pre2 (st7 V)

/-- The contents after the first 9 pieces. -/
def st9 (V : Valuation τ sig (Elt F)) : Valuation τ sig (Elt F) := after ops_norm2 (st8 V)

/-- The contents after the first 10 pieces. -/
def st10 (V : Valuation τ sig (Elt F)) : Valuation τ sig (Elt F) := after ops_relu2 (st9 V)

/-- The contents after the first 11 pieces. -/
def st11 (V : Valuation τ sig (Elt F)) : Valuation τ sig (Elt F) := after ops_res2 (st10 V)

/-- The contents after the first 12 pieces. -/
def st12 (V : Valuation τ sig (Elt F)) : Valuation τ sig (Elt F) := after ops_pre3 (st11 V)

/-- The contents after the first 13 pieces. -/
def st13 (V : Valuation τ sig (Elt F)) : Valuation τ sig (Elt F) := after ops_norm3 (st12 V)

/-- The contents after the first 14 pieces. -/
def st14 (V : Valuation τ sig (Elt F)) : Valuation τ sig (Elt F) := after ops_res3 (st13 V)

/-- The whole line's contents are those after the last piece. -/
theorem after_ops (V : Valuation τ sig (Elt F)) : after ops V = st14 V := by
  simp only [ops, after_append]
  rfl

/-- No piece writes the reference. -/
abbrev Untouched (r : Ref sig .tc) : Prop := r ∉ wr_pre0 ∧ r ∉ wr_norm0 ∧ r ∉ wr_relu0 ∧ r ∉ wr_pre1 ∧ r ∉ wr_norm1 ∧ r ∉ wr_relu1 ∧ r ∉ wr_res1 ∧ r ∉ wr_pre2 ∧ r ∉ wr_norm2 ∧ r ∉ wr_relu2 ∧ r ∉ wr_res2 ∧ r ∉ wr_pre3 ∧ r ∉ wr_norm3 ∧ r ∉ wr_res3

/-- Before the first piece every reference is as it was. -/
theorem kept0 (V : Valuation τ sig (Elt F)) (r : Ref sig .tc) (h : Untouched r) : st0 V (Proc.devRef .tc r) = V (Proc.devRef .tc r) := rfl

/-- An untouched reference is as it was after 1 pieces. -/
theorem kept1 (V : Valuation τ sig (Elt F)) (r : Ref sig .tc) (h : Untouched r) : st1 V (Proc.devRef .tc r) = V (Proc.devRef .tc r) :=
  (keep_pre0 (st0 V) r h.1).trans (kept0 V r h)

/-- An untouched reference is as it was after 2 pieces. -/
theorem kept2 (V : Valuation τ sig (Elt F)) (r : Ref sig .tc) (h : Untouched r) : st2 V (Proc.devRef .tc r) = V (Proc.devRef .tc r) :=
  (keep_norm0 (st1 V) r h.2.1).trans (kept1 V r h)

/-- An untouched reference is as it was after 3 pieces. -/
theorem kept3 (V : Valuation τ sig (Elt F)) (r : Ref sig .tc) (h : Untouched r) : st3 V (Proc.devRef .tc r) = V (Proc.devRef .tc r) :=
  (keep_relu0 (st2 V) r h.2.2.1).trans (kept2 V r h)

/-- An untouched reference is as it was after 4 pieces. -/
theorem kept4 (V : Valuation τ sig (Elt F)) (r : Ref sig .tc) (h : Untouched r) : st4 V (Proc.devRef .tc r) = V (Proc.devRef .tc r) :=
  (keep_pre1 (st3 V) r h.2.2.2.1).trans (kept3 V r h)

/-- An untouched reference is as it was after 5 pieces. -/
theorem kept5 (V : Valuation τ sig (Elt F)) (r : Ref sig .tc) (h : Untouched r) : st5 V (Proc.devRef .tc r) = V (Proc.devRef .tc r) :=
  (keep_norm1 (st4 V) r h.2.2.2.2.1).trans (kept4 V r h)

/-- An untouched reference is as it was after 6 pieces. -/
theorem kept6 (V : Valuation τ sig (Elt F)) (r : Ref sig .tc) (h : Untouched r) : st6 V (Proc.devRef .tc r) = V (Proc.devRef .tc r) :=
  (keep_relu1 (st5 V) r h.2.2.2.2.2.1).trans (kept5 V r h)

/-- An untouched reference is as it was after 7 pieces. -/
theorem kept7 (V : Valuation τ sig (Elt F)) (r : Ref sig .tc) (h : Untouched r) : st7 V (Proc.devRef .tc r) = V (Proc.devRef .tc r) :=
  (keep_res1 (st6 V) r h.2.2.2.2.2.2.1).trans (kept6 V r h)

/-- An untouched reference is as it was after 8 pieces. -/
theorem kept8 (V : Valuation τ sig (Elt F)) (r : Ref sig .tc) (h : Untouched r) : st8 V (Proc.devRef .tc r) = V (Proc.devRef .tc r) :=
  (keep_pre2 (st7 V) r h.2.2.2.2.2.2.2.1).trans (kept7 V r h)

/-- An untouched reference is as it was after 9 pieces. -/
theorem kept9 (V : Valuation τ sig (Elt F)) (r : Ref sig .tc) (h : Untouched r) : st9 V (Proc.devRef .tc r) = V (Proc.devRef .tc r) :=
  (keep_norm2 (st8 V) r h.2.2.2.2.2.2.2.2.1).trans (kept8 V r h)

/-- An untouched reference is as it was after 10 pieces. -/
theorem kept10 (V : Valuation τ sig (Elt F)) (r : Ref sig .tc) (h : Untouched r) : st10 V (Proc.devRef .tc r) = V (Proc.devRef .tc r) :=
  (keep_relu2 (st9 V) r h.2.2.2.2.2.2.2.2.2.1).trans (kept9 V r h)

/-- An untouched reference is as it was after 11 pieces. -/
theorem kept11 (V : Valuation τ sig (Elt F)) (r : Ref sig .tc) (h : Untouched r) : st11 V (Proc.devRef .tc r) = V (Proc.devRef .tc r) :=
  (keep_res2 (st10 V) r h.2.2.2.2.2.2.2.2.2.2.1).trans (kept10 V r h)

/-- An untouched reference is as it was after 12 pieces. -/
theorem kept12 (V : Valuation τ sig (Elt F)) (r : Ref sig .tc) (h : Untouched r) : st12 V (Proc.devRef .tc r) = V (Proc.devRef .tc r) :=
  (keep_pre3 (st11 V) r h.2.2.2.2.2.2.2.2.2.2.2.1).trans (kept11 V r h)

/-- An untouched reference is as it was after 13 pieces. -/
theorem kept13 (V : Valuation τ sig (Elt F)) (r : Ref sig .tc) (h : Untouched r) : st13 V (Proc.devRef .tc r) = V (Proc.devRef .tc r) :=
  (keep_norm3 (st12 V) r h.2.2.2.2.2.2.2.2.2.2.2.2.1).trans (kept12 V r h)

/-- An untouched reference is as it was after 14 pieces. -/
theorem kept14 (V : Valuation τ sig (Elt F)) (r : Ref sig .tc) (h : Untouched r) : st14 V (Proc.devRef .tc r) = V (Proc.devRef .tc r) :=
  (keep_res3 (st13 V) r h.2.2.2.2.2.2.2.2.2.2.2.2.2).trans (kept13 V r h)

/-- The four layers one after the other. -/
def spec (x : (⟨S10000x128, .f32⟩ : BufTy).Contents (Elt F)) (adj : (⟨S10000x10000, .f32⟩ : BufTy).Contents (Elt F)) (W0 : (⟨S128x128, .f32⟩ : BufTy).Contents (Elt F)) (b0 : (⟨S128, .f32⟩ : BufTy).Contents (Elt F)) (W1 : (⟨S128x128, .f32⟩ : BufTy).Contents (Elt F)) (b1 : (⟨S128, .f32⟩ : BufTy).Contents (Elt F)) (W2 : (⟨S128x128, .f32⟩ : BufTy).Contents (Elt F)) (b2 : (⟨S128, .f32⟩ : BufTy).Contents (Elt F)) (W3 : (⟨S128x128, .f32⟩ : BufTy).Contents (Elt F)) (b3 : (⟨S128, .f32⟩ : BufTy).Contents (Elt F))
    (g0 be0 g1 be1 g2 be2 g3 be3 : (⟨S128, .f32⟩ : BufTy).Contents (Elt F)) : (⟨S10000x128, .f32⟩ : BufTy).Contents (Elt F) :=
  let h0 := relu (norm (conv adj x W0 b0) g0 be0)
  let h1 := plus 0x3F4CCCCD#32 (relu (norm (conv adj h0 W1 b1) g1 be1)) h0
  let h2 := plus 0x3F4CCCCD#32 (relu (norm (conv adj h1 W2 b2) g2 be2)) h1
  plus 0x3E4CCCCD#32 (norm (conv adj h2 W3 b3) g3 be3) x

/-- The result of the whole line. -/
theorem out_eq (V : Valuation τ sig (Elt F)) : after ops V (Proc.devRef .tc main_v143) = spec (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) := by
  rw [after_ops]
  have u0 : Untouched main_arg0 := by decide
  have u1 : Untouched main_arg1 := by decide
  have u2 : Untouched main_arg2 := by decide
  have u3 : Untouched main_arg3 := by decide
  have u4 : Untouched main_arg4 := by decide
  have u5 : Untouched main_arg5 := by decide
  have u6 : Untouched main_arg6 := by decide
  have u7 : Untouched main_arg7 := by decide
  have u8 : Untouched main_arg8 := by decide
  have u9 : Untouched main_arg9 := by decide
  have u10 : Untouched main_arg10 := by decide
  have u11 : Untouched main_arg11 := by decide
  have u12 : Untouched main_arg12 := by decide
  have u13 : Untouched main_arg13 := by decide
  have u14 : Untouched main_arg14 := by decide
  have u15 : Untouched main_arg15 := by decide
  have u16 : Untouched main_arg16 := by decide
  have u17 : Untouched main_arg17 := by decide
  have p0 : st1 V (Proc.devRef .tc main_v8) = _ := (at_pre0 (st0 V)).trans (by rw [kept0 V _ u1, kept0 V _ u0, kept0 V _ u2, kept0 V _ u3])
  have n0 : st2 V (Proc.devRef .tc main_v32) = _ := (at_norm0 (st1 V)).trans (by rw [p0, kept1 V _ u10, kept1 V _ u11])
  have r0 : st3 V (Proc.devRef .tc main_v33) = _ := (at_relu0 (st2 V)).trans (by rw [n0])
  have p1 : st4 V (Proc.devRef .tc main_v42) = _ := (at_pre1 (st3 V)).trans (by rw [kept3 V _ u1, r0, kept3 V _ u4, kept3 V _ u5])
  have n1 : st5 V (Proc.devRef .tc main_v66) = _ := (at_norm1 (st4 V)).trans (by rw [p1, kept4 V _ u12, kept4 V _ u13])
  have r1 : st6 V (Proc.devRef .tc main_v67) = _ := (at_relu1 (st5 V)).trans (by rw [n1])
  have r0' : st6 V (Proc.devRef .tc main_v33) = _ := ((keep_relu1 (st5 V) main_v33 (by decide)).trans
    ((keep_norm1 (st4 V) main_v33 (by decide)).trans (keep_pre1 (st3 V) main_v33 (by decide)))).trans r0
  have s1 : st7 V (Proc.devRef .tc main_v70) = _ := (at_res1 (st6 V)).trans (by rw [r1, r0'])
  have p2 : st8 V (Proc.devRef .tc main_v79) = _ := (at_pre2 (st7 V)).trans (by rw [kept7 V _ u1, s1, kept7 V _ u6, kept7 V _ u7])
  have n2 : st9 V (Proc.devRef .tc main_v103) = _ := (at_norm2 (st8 V)).trans (by rw [p2, kept8 V _ u14, kept8 V _ u15])
  have r2 : st10 V (Proc.devRef .tc main_v104) = _ := (at_relu2 (st9 V)).trans (by rw [n2])
  have s1' : st10 V (Proc.devRef .tc main_v70) = _ := ((keep_relu2 (st9 V) main_v70 (by decide)).trans
    ((keep_norm2 (st8 V) main_v70 (by decide)).trans (keep_pre2 (st7 V) main_v70 (by decide)))).trans s1
  have s2 : st11 V (Proc.devRef .tc main_v107) = _ := (at_res2 (st10 V)).trans (by rw [r2, s1'])
  have p3 : st12 V (Proc.devRef .tc main_v116) = _ := (at_pre3 (st11 V)).trans (by rw [kept11 V _ u1, s2, kept11 V _ u8, kept11 V _ u9])
  have n3 : st13 V (Proc.devRef .tc main_v140) = _ := (at_norm3 (st12 V)).trans (by rw [p3, kept12 V _ u16, kept12 V _ u17])
  exact (at_res3 (st13 V)).trans (by rw [n3, kept13 V _ u0]; rfl)

/-- Every execution ends, with the result at the four layers' value and every argument as launched. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v143) = spec (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => ⟨(h c main_v143).trans (out_eq _),
    (h c main_arg0).trans ((congrFun (after_ops _) _).trans (kept14 _ main_arg0 (by decide))),
    (h c main_arg1).trans ((congrFun (after_ops _) _).trans (kept14 _ main_arg1 (by decide))),
    (h c main_arg2).trans ((congrFun (after_ops _) _).trans (kept14 _ main_arg2 (by decide))),
    (h c main_arg3).trans ((congrFun (after_ops _) _).trans (kept14 _ main_arg3 (by decide))),
    (h c main_arg4).trans ((congrFun (after_ops _) _).trans (kept14 _ main_arg4 (by decide))),
    (h c main_arg5).trans ((congrFun (after_ops _) _).trans (kept14 _ main_arg5 (by decide))),
    (h c main_arg6).trans ((congrFun (after_ops _) _).trans (kept14 _ main_arg6 (by decide))),
    (h c main_arg7).trans ((congrFun (after_ops _) _).trans (kept14 _ main_arg7 (by decide))),
    (h c main_arg8).trans ((congrFun (after_ops _) _).trans (kept14 _ main_arg8 (by decide))),
    (h c main_arg9).trans ((congrFun (after_ops _) _).trans (kept14 _ main_arg9 (by decide))),
    (h c main_arg10).trans ((congrFun (after_ops _) _).trans (kept14 _ main_arg10 (by decide))),
    (h c main_arg11).trans ((congrFun (after_ops _) _).trans (kept14 _ main_arg11 (by decide))),
    (h c main_arg12).trans ((congrFun (after_ops _) _).trans (kept14 _ main_arg12 (by decide))),
    (h c main_arg13).trans ((congrFun (after_ops _) _).trans (kept14 _ main_arg13 (by decide))),
    (h c main_arg14).trans ((congrFun (after_ops _) _).trans (kept14 _ main_arg14 (by decide))),
    (h c main_arg15).trans ((congrFun (after_ops _) _).trans (kept14 _ main_arg15 (by decide))),
    (h c main_arg16).trans ((congrFun (after_ops _) _).trans (kept14 _ main_arg16 (by decide))),
    (h c main_arg17).trans ((congrFun (after_ops _) _).trans (kept14 _ main_arg17 (by decide)))⟩)
    (run_seq no_scoped_refs no_scoped_sems defs main (fun _ => ops) main_eq (fun _ => ops_sub) m ρ
      (fun _ op h => List.forall_iff_forall_mem.mp ops_fresh op h))

end Cert.ReferenceIdeal.Plain

end
-- ==== Proof.LayerMath.lean ====
/- One layer's row over the extended reals: the scaled sum, the layer norm, and the product taken in two halves. -/
module

public import Idealize.ShloMosaic.Lib.Pointwise

@[expose] public section

noncomputable section

namespace Cert.Layer

open Idealize.ShloMosaic

/-- The number of columns, as both programs' float word. -/
def cols : EReal := Ideal.ofBits .f32 0x43000000#32
/-- The layer norm's offset under the root, as both programs' float word. -/
def eps : EReal := Ideal.ofBits .f32 0x3727C5AC#32
/-- The factor of the hidden layers' residual. -/
def cHid : EReal := Ideal.ofBits .f32 0x3F4CCCCD#32
/-- The factor of the input in the last layer. -/
def cIn : EReal := Ideal.ofBits .f32 0x3E4CCCCD#32
/-- The reciprocal of the root of the variance word. -/
def invBn : EReal := (((Real.sqrt (2097173 / 2097152))⁻¹ : ℝ) : EReal)

/-- A row's mean. -/
def mean (t : Fin 128 → EReal) : EReal := Ideal.div (∑ j, t j) cols
/-- A row's variance. -/
def var (t : Fin 128 → EReal) : EReal := mean fun j => (t j - mean t) * (t j - mean t)
/-- A row less its mean, over its deviation. -/
def core (t : Fin 128 → EReal) (j : Fin 128) : EReal := (t j - mean t) * Ideal.rsqrt (var t + eps)
/-- A row's layer norm. -/
def normed (t g e : Fin 128 → EReal) (j : Fin 128) : EReal := core t j * g j + e j
/-- A row's convolution: the adjacency row against the support, the bias, the batch norm's factor. -/
def conv {n : ℕ} (a : Fin n → EReal) (s : Fin n → Fin 128 → EReal) (b : Fin 128 → EReal) (j : Fin 128) : EReal :=
  ((∑ k, a k * s k j) + b j) * invBn
/-- The same with the support's two halves, the second being what the first leaves of it. -/
def conv2 {n : ℕ} (a : Fin n → EReal) (s : Fin n → Fin 128 → EReal) (b : Fin 128 → EReal) (j : Fin 128) : EReal :=
  ((∑ k, a k * s k j) + (∑ k, a k * (s k j - s k j)) + b j) * invBn

/-- The support: the rows against the weights. -/
def dot {n : ℕ} (h : Fin n → Fin 128 → EReal) (w : Fin 128 → Fin 128 → EReal) (k : Fin n) (j : Fin 128) : EReal := ∑ l, h k l * w l j
/-- A whole layer up to its norm. -/
def layer {n : ℕ} (adj : Fin n → Fin n → EReal) (h : Fin n → Fin 128 → EReal) (w : Fin 128 → Fin 128 → EReal) (b g e : Fin 128 → EReal)
    (i : Fin n) : Fin 128 → EReal := normed (conv (adj i) (dot h w) b) g e
/-- The first layer: the norm cut off below zero. -/
def first {n : ℕ} (adj : Fin n → Fin n → EReal) (h : Fin n → Fin 128 → EReal) (w : Fin 128 → Fin 128 → EReal) (b g e : Fin 128 → EReal)
    (i : Fin n) (j : Fin 128) : EReal := max (layer adj h w b g e i j) 0
/-- A hidden layer: the same and the residual. -/
def hidden {n : ℕ} (adj : Fin n → Fin n → EReal) (h : Fin n → Fin 128 → EReal) (w : Fin 128 → Fin 128 → EReal) (b g e : Fin 128 → EReal)
    (i : Fin n) (j : Fin 128) : EReal := max (layer adj h w b g e i j) 0 + cHid * h i j
/-- The last layer: the norm and the input. -/
def last {n : ℕ} (adj : Fin n → Fin n → EReal) (h x : Fin n → Fin 128 → EReal) (w : Fin 128 → Fin 128 → EReal) (b g e : Fin 128 → EReal)
    (i : Fin n) (j : Fin 128) : EReal := layer adj h w b g e i j + cIn * x i j

/-- A matrix of the programs, by its two coordinates. -/
abbrev mat {n m : ℕ} (v : (⟨2, ![n, m]⟩ : Shape).Idx → EReal) (i : Fin n) (j : Fin m) : EReal := v (ix2 i j)
/-- A vector of the programs, by its coordinate. -/
abbrev vec {n : ℕ} (v : (⟨1, ![n]⟩ : Shape).Idx → EReal) (j : Fin n) : EReal := v (ix1 j)

/-- A support's 256 columns: itself, then what is left of it when it is taken from itself. -/
def split (s : Fin 128 → EReal) (j : Fin 256) : EReal :=
  if h : j.val < 128 then s ⟨j.val, h⟩ else s ⟨j.val - 128, by omega⟩ - s ⟨j.val - 128, by omega⟩

/-- The left half of a split support is the support. -/
theorem split_left (s : Fin 128 → EReal) (j : Fin 128) (h : j.val < 256) : split s ⟨j.val, h⟩ = s j := by
  unfold split
  rw [dif_pos j.isLt]

/-- The right half is the support less itself. -/
theorem split_right (s : Fin 128 → EReal) (j : Fin 128) (h : 128 + j.val < 256) : split s ⟨128 + j.val, h⟩ = s j - s j := by
  unfold split
  rw [dif_neg (by simp)]
  simp

/-- The two infinities. -/
def Inf (x : EReal) : Prop := x = ⊥ ∨ x = ⊤

/-- An infinity plus anything is infinite. -/
theorem Inf.add_right {x : EReal} (h : Inf x) (y : EReal) : Inf (x + y) := by
  rcases h with rfl | rfl
  · exact .inl (EReal.bot_add y)
  · by_cases hy : y = ⊥
    · exact .inl (by rw [hy, EReal.add_bot])
    · exact .inr (EReal.top_add_of_ne_bot hy)

/-- The negative of an infinity is infinite. -/
theorem Inf.neg {x : EReal} (h : Inf x) : Inf (-x) := by
  rcases h with rfl | rfl
  · exact .inr EReal.neg_bot
  · exact .inl EReal.neg_top

/-- Anything less an infinity is infinite. -/
theorem Inf.sub_left {y : EReal} (h : Inf y) (x : EReal) : Inf (x - y) := by
  rw [sub_eq_add_neg, add_comm]
  exact h.neg.add_right x

/-- An infinity times anything but zero is infinite. -/
theorem Inf.mul {x y : EReal} (h : Inf x) (hy : y ≠ 0) : Inf (x * y) := by
  rcases lt_or_gt_of_ne hy with hy | hy
  · rcases h with rfl | rfl
    · exact .inr (EReal.bot_mul_of_neg hy)
    · exact .inl (EReal.top_mul_of_neg hy)
  · rcases h with rfl | rfl
    · exact .inl (EReal.bot_mul_of_pos hy)
    · exact .inr (EReal.top_mul_of_pos hy)

/-- The square of an infinity is the positive infinity. -/
theorem Inf.sq {x : EReal} (h : Inf x) : x * x = ⊤ := by
  rcases h with rfl | rfl
  · exact EReal.bot_mul_of_neg EReal.bot_lt_zero
  · exact EReal.top_mul_of_pos EReal.zero_lt_top

/-- A sum with an infinite term is infinite. -/
theorem Inf.sum {ι : Type} [Fintype ι] [DecidableEq ι] {f : ι → EReal} {i : ι} (h : Inf (f i)) : Inf (∑ k, f k) := by
  rw [← Finset.add_sum_erase _ _ (Finset.mem_univ i)]
  exact h.add_right _

/-- A square is not negative. -/
theorem sq_nonneg (x : EReal) : 0 ≤ x * x := by
  rcases le_total 0 x with h | h
  · exact mul_nonneg h h
  · rw [← neg_mul_neg]
    have : 0 ≤ -x := EReal.neg_nonneg.mpr h
    exact mul_nonneg this this

/-- A positive normal float word is its significand times a power of two. -/
theorem word_eq (b : BitVec 32) (ex fr : ℕ) (hs : (b.extractLsb' 31 1 == 1#1) = false) (he : (b.extractLsb' 23 8).toNat = ex)
    (hf : (b.extractLsb' 0 23).toNat = fr) (h1 : ex ≠ 255) (h0 : ex ≠ 0) :
    Ideal.ofBits .f32 b = ((((2 ^ 23 + fr : ℕ) : ℝ) * (2 : ℝ) ^ ((ex : ℤ) - 127 - 23) : ℝ) : EReal) := by
  show Ideal.ieee 8 23 b = _
  unfold Ideal.ieee
  simp only [he, hf]
  rw [if_neg (by simpa using h1), if_neg h0]
  congr 1
  have hs' : (b.extractLsb' (8 + 23) 1 == 1#1) = false := hs
  rw [hs']
  norm_num

/-- The number of columns is 128. -/
theorem cols_eq : cols = ((128 : ℝ) : EReal) := by
  unfold cols
  rw [word_eq _ 134 0 (by decide) (by decide) (by decide) (by decide) (by decide)]
  norm_num

/-- The offset under the root is positive. -/
theorem eps_pos : 0 < eps := by
  unfold eps
  rw [word_eq _ 110 2606508 (by decide) (by decide) (by decide) (by decide) (by decide)]
  exact EReal.coe_pos.mpr (by positivity)

/-- The reciprocal root of a positive number. -/
theorem rsqrt_pos {r : ℝ} (hr : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg (not_lt.mpr hr.le), if_neg hr.ne']

/-- The root of a positive number. -/
theorem sqrt_pos {r : ℝ} (hr : 0 < r) : Ideal.sqrt (r : EReal) = ((Real.sqrt r : ℝ) : EReal) := by
  show (if r < 0 then (⊥ : EReal) else ((Real.sqrt r : ℝ) : EReal)) = _
  rw [if_neg (not_lt.mpr hr.le)]

/-- A mean is a sum times 1/128. -/
theorem mean_eq (t : Fin 128 → EReal) : mean t = (∑ j, t j) * (((128 : ℝ)⁻¹ : ℝ) : EReal) := by
  unfold mean Ideal.div
  rw [if_neg (by rw [cols_eq]; norm_num), cols_eq, EReal.coe_inv]

/-- A variance is not negative. -/
theorem var_nonneg (t : Fin 128 → EReal) : 0 ≤ var t := by
  unfold var
  rw [mean_eq]
  exact mul_nonneg (Finset.sum_nonneg fun j _ => sq_nonneg _) (EReal.coe_nonneg.mpr (by norm_num))

/-- What is under the root is positive. -/
theorem rad_pos (t : Fin 128 → EReal) : 0 < var t + eps := lt_of_lt_of_le eps_pos (le_add_of_nonneg_left (var_nonneg t))

/-- Times the reciprocal of a root is over the root, of a positive number. -/
theorem mul_rsqrt {v : EReal} (hv : 0 < v) (x : EReal) : x * Ideal.rsqrt v = Ideal.div x (Ideal.sqrt v) := by
  induction v with
  | bot => exact absurd hv (by simp)
  | top =>
    show x * 0 = Ideal.div x ⊤
    unfold Ideal.div
    rw [if_neg EReal.top_ne_zero, EReal.inv_top]
  | coe r =>
    have hr : 0 < r := EReal.coe_pos.mp hv
    have hs : Real.sqrt r ≠ 0 := (Real.sqrt_pos.mpr hr).ne'
    rw [rsqrt_pos hr, sqrt_pos hr]
    unfold Ideal.div
    rw [if_neg (by exact_mod_cast hs), EReal.coe_inv]

/-- A row's core, with the division that the reference writes. -/
theorem core_eq (t : Fin 128 → EReal) (j : Fin 128) : core t j = Ideal.div (t j - mean t) (Ideal.sqrt (var t + eps)) :=
  mul_rsqrt (rad_pos t) _

/-- A row with an infinite entry has core zero at every column. -/
theorem core_of_inf {t : Fin 128 → EReal} {i : Fin 128} (h : Inf (t i)) (j : Fin 128) : core t j = 0 := by
  have hm : Inf (mean t) := by
    rw [mean_eq]
    exact h.sum.mul (by norm_num)
  have hv : var t = ⊤ := by
    unfold var
    rw [mean_eq, Finset.sum_congr rfl fun k _ => (hm.sub_left (t k)).sq]
    have : (∑ _k : Fin 128, (⊤ : EReal)) = ⊤ := by
      rw [← Finset.add_sum_erase _ _ (Finset.mem_univ i)]
      exact EReal.top_add_of_ne_bot (lt_of_lt_of_le EReal.bot_lt_zero (Finset.sum_nonneg fun _ _ => le_top)).ne'
    rw [this]
    exact EReal.top_mul_of_pos (EReal.coe_pos.mpr (by norm_num))
  have he : eps ≠ ⊥ := (lt_trans EReal.bot_lt_zero eps_pos).ne'
  unfold core
  rw [hv, EReal.top_add_of_ne_bot he]
  show _ * (0 : EReal) = 0
  exact mul_zero _

/-- The batch norm's factor is not zero. -/
theorem invBn_ne : invBn ≠ 0 := by
  have : (0 : ℝ) < Real.sqrt (2097173 / 2097152) := Real.sqrt_pos.mpr (by norm_num)
  unfold invBn
  exact_mod_cast (inv_pos.mpr this).ne'

/-- The two halves' sum is the sum, or both are infinite. -/
theorem halves {n : ℕ} (a s : Fin n → EReal) :
    (∑ k, a k * s k) + (∑ k, a k * (s k - s k)) = ∑ k, a k * s k
      ∨ Inf ((∑ k, a k * s k) + (∑ k, a k * (s k - s k))) ∧ Inf (∑ k, a k * s k) := by
  by_cases h : ∀ k, a k * (s k - s k) = 0
  · left
    rw [Finset.sum_congr rfl fun k _ => h k, Finset.sum_const_zero, add_zero]
  · right
    obtain ⟨k, hk⟩ := not_forall.mp h
    have ha : a k ≠ 0 := fun e => hk (by rw [e, zero_mul])
    have hs : Inf (s k) := by
      by_contra hs
      have hb : s k ≠ ⊥ := fun e => hs (.inl e)
      have ht : s k ≠ ⊤ := fun e => hs (.inr e)
      exact hk (by rw [EReal.sub_self ht hb, mul_zero])
    have hi : Inf (∑ k, a k * s k) := Inf.sum (i := k) (by rw [mul_comm]; exact hs.mul ha)
    exact ⟨hi.add_right _, hi⟩

/-- The layer norm does not see whether the support came in two halves. -/
theorem core_conv2 {n : ℕ} (a : Fin n → EReal) (s : Fin n → Fin 128 → EReal) (b : Fin 128 → EReal) (j : Fin 128) :
    core (conv2 a s b) j = core (conv a s b) j := by
  by_cases h : ∀ i, conv2 a s b i = conv a s b i
  · rw [funext h]
  · obtain ⟨i, hi⟩ := not_forall.mp h
    rcases halves a (fun k => s k i) with e | ⟨h2, h1⟩
    · exact absurd (by unfold conv2 conv; rw [e]) hi
    · rw [core_of_inf (i := i) ((h2.add_right _).mul invBn_ne), core_of_inf (i := i) ((h1.add_right _).mul invBn_ne)]

/-- Nor does the whole norm. -/
theorem normed_conv2 {n : ℕ} (a : Fin n → EReal) (s : Fin n → Fin 128 → EReal) (b g e : Fin 128 → EReal) :
    normed (conv2 a s b) g e = normed (conv a s b) g e := by
  funext j
  unfold normed
  rw [core_conv2]

/-- Over the root of the variance word is times its named reciprocal. -/
theorem div_sqrt_word (x : EReal) : Ideal.div x (Ideal.sqrt (Ideal.ofBits .f32 0x3F800054#32)) = x * invBn := by
  have hw : Ideal.ofBits .f32 0x3F800054#32 = ((2097173 / 2097152 : ℝ) : EReal) := by
    rw [word_eq _ 127 84 (by decide) (by decide) (by decide) (by decide) (by decide)]
    norm_num
  rw [hw, ← mul_rsqrt (EReal.coe_pos.mpr (by norm_num)), rsqrt_pos (by norm_num)]
  rfl

end Cert.Layer

end
-- ==== Proof.RefCells.lean ====
/- The reference's result, read at one index over the extended reals. -/
module

public import proofs.«01_k».proof.Proof.LayerMath
public import proofs.«01_k».proof.Proof.RefRun

@[expose] public section

set_option maxRecDepth 16384

noncomputable section

namespace Cert.ReferenceIdeal.Plain

open Idealize.ShloMosaic Cert.ReferenceIdeal.Gen
open Cert.Layer (mean var core normed invBn cHid cIn dot layer first hidden last mat vec)

variable (t h x : (⟨S10000x128, .f32⟩ : BufTy).Contents (Elt Ideal)) (adj : (⟨S10000x10000, .f32⟩ : BufTy).Contents (Elt Ideal))
  (w : (⟨S128x128, .f32⟩ : BufTy).Contents (Elt Ideal)) (b g e : (⟨S128, .f32⟩ : BufTy).Contents (Elt Ideal))

/-- A vector repeated for each row. -/
theorem rows_at (i : Fin 10000) (j : Fin 128) : rows (F := Ideal) b (ix2 i j) = vec b j := by
  pointwise [rows]

/-- The rows' means. -/
theorem means_at (i : Fin 10000) (z : Fin 1) : means (F := Ideal) t (ix2 i z) = mean (mat t i) := by
  pointwise [means]
  rfl

/-- The scaled convolution. -/
theorem conv_at (i : Fin 10000) (j : Fin 128) :
    conv (F := Ideal) adj h w b (ix2 i j) = Cert.Layer.conv (mat adj i) (dot (mat h) (mat w)) (vec b) j := by
  pointwise [conv, rows_at]
  exact Cert.Layer.div_sqrt_word _

/-- A column repeated for each column. -/
theorem spread_at (v : (⟨S10000x1, .f32⟩ : BufTy).Contents (Elt Ideal)) (i : Fin 10000) (j : Fin 128) :
    spread (F := Ideal) v (ix2 i j) = v (ix2 i 0) := by
  pointwise [spread]

/-- A row's squared deviations. -/
theorem square_mat (i : Fin 10000) : mat (mulf (F := Ideal) (φ := .f32) (subf t (spread (means t))) (subf t (spread (means t)))) i
    = fun j => (mat t i j - mean (mat t i)) * (mat t i j - mean (mat t i)) := by
  funext j
  pointwise [spread_at, means_at]

/-- The layer norm. -/
theorem norm_at (i : Fin 10000) (j : Fin 128) : norm (F := Ideal) t g e (ix2 i j) = normed (mat t i) (vec g) (vec e) j := by
  unfold normed
  rw [Cert.Layer.core_eq]
  pointwise [norm, rows_at, spread_at, means_at]
  rw [square_mat]
  rfl

/-- The layer up to its norm. -/
theorem layer_at (i : Fin 10000) (j : Fin 128) :
    norm (F := Ideal) (conv adj h w b) g e (ix2 i j) = layer (mat adj) (mat h) (mat w) (vec b) (vec g) (vec e) i j := by
  rw [norm_at, show mat (conv (F := Ideal) adj h w b) i = _ from funext fun j => conv_at h adj w b i j]
  rfl

/-- The cut below zero. -/
theorem relu_at (i : Fin 10000) (j : Fin 128) : relu (F := Ideal) t (ix2 i j) = max (t (ix2 i j)) 0 := by
  pointwise [relu, flat]

/-- A scaled residual added. -/
theorem plus_at (c : BitVec 32) (i : Fin 10000) (j : Fin 128) :
    plus (F := Ideal) c t h (ix2 i j) = t (ix2 i j) + Ideal.ofBits .f32 c * h (ix2 i j) := by
  pointwise [plus, flat]

/-- The first layer. -/
theorem first_mat : mat (relu (F := Ideal) (norm (conv adj x w b) g e)) = first (mat adj) (mat x) (mat w) (vec b) (vec g) (vec e) := by
  funext i j
  exact (relu_at _ i j).trans (by rw [layer_at]; rfl)

/-- A hidden layer. -/
theorem hidden_mat : mat (plus (F := Ideal) 0x3F4CCCCD#32 (relu (norm (conv adj h w b) g e)) h)
    = hidden (mat adj) (mat h) (mat w) (vec b) (vec g) (vec e) := by
  funext i j
  exact (plus_at _ _ _ i j).trans (by rw [relu_at, layer_at]; rfl)

/-- The last layer. -/
theorem last_mat : mat (plus (F := Ideal) 0x3E4CCCCD#32 (norm (conv adj h w b) g e) x)
    = last (mat adj) (mat h) (mat x) (mat w) (vec b) (vec g) (vec e) := by
  funext i j
  exact (plus_at _ _ _ i j).trans (by rw [layer_at]; rfl)

/-- The reference's result, entry by entry: the four layers. -/
theorem spec_mat (W0 W1 W2 W3 : (⟨S128x128, .f32⟩ : BufTy).Contents (Elt Ideal))
    (b0 b1 b2 b3 g0 e0 g1 e1 g2 e2 g3 e3 : (⟨S128, .f32⟩ : BufTy).Contents (Elt Ideal)) :
    mat (spec (F := Ideal) x adj W0 b0 W1 b1 W2 b2 W3 b3 g0 e0 g1 e1 g2 e2 g3 e3)
      = last (mat adj) (hidden (mat adj) (hidden (mat adj) (first (mat adj) (mat x) (mat W0) (vec b0) (vec g0) (vec e0))
          (mat W1) (vec b1) (vec g1) (vec e1)) (mat W2) (vec b2) (vec g2) (vec e2)) (mat x) (mat W3) (vec b3) (vec g3) (vec e3) := by
  unfold spec
  rw [last_mat, hidden_mat, hidden_mat, first_mat]

end Cert.ReferenceIdeal.Plain

end
-- ==== Proof.CellsI.lean ====
/- What the two bodies compute, read at one index over the extended reals. -/
module

public import proofs.«01_k».proof.Proof.LayerMath
public import proofs.«01_k».proof.Proof.Body0I
public import proofs.«01_k».proof.Proof.Body1I

@[expose] public section

set_option maxRecDepth 16384

noncomputable section

namespace Cert.KernelIdeal.Net

open Idealize.ShloMosaic Cert.KernelIdeal.Gen
open Cert.Layer (mean var core normed conv conv2 split invBn cHid cIn)

/-- The named constant over the extended reals. -/
theorem named_inv : Named.named (F := Ideal) κ "inv_bn" (φ := .f32) 0x3F7FFFAC#32 = invBn :=
  IdealRules.named_const.ideal_named_scalar _ _ _ _ rfl

/-! ### The first call -/

section First
variable (a : Vec Ideal S400x10000 .f32) (S : Vec Ideal S10000x128 .bf16) (b g e : Vec Ideal S1x128 .f32) (w : Vec Ideal S128x128 .f32)

/-- The block's row `r`, scaled, as the first call computes it. -/
abbrev first400 (r : Fin 400) : Fin 128 → EReal := conv (fun k => a (ix2 r k)) (fun k j => S (ix2 k j)) (fun j => b (ix2 0 j))

/-- The support of the input, entry by entry. -/
theorem sup_at (x : Vec Ideal S10000x128 .f32) (k : Fin 10000) (j : Fin 128) :
    k0_pay3 (F := Ideal) x w (ix2 k j) = ∑ l : Fin 128, x (ix2 k l) * w (ix2 l j) := by
  pointwise [k0_pay3]

/-- The adjacency is written as it is. -/
theorem adjOut_eq : adjOut (F := Ideal) a = a := rfl

/-- The scaled convolution. -/
theorem pay7_at (r : Fin 400) (j : Fin 128) : k0_pay7 (F := Ideal) a S b (ix2 r j) = first400 a S b r j := by
  pointwise [k0_pay7, named_inv]
  rfl

/-- Its rows' means. -/
theorem pay8_at (r : Fin 400) (z : Fin 1) : k0_pay8 (F := Ideal) a S b (ix2 r z) = mean (first400 a S b r) := by
  pointwise [k0_pay8, pay7_at]
  rfl

/-- It less its mean. -/
theorem pay9_at (r : Fin 400) (j : Fin 128) : k0_pay9 (F := Ideal) a S b (ix2 r j) = first400 a S b r j - mean (first400 a S b r) := by
  pointwise [k0_pay9, pay7_at, pay8_at]

/-- The reciprocal of its deviation. -/
theorem pay10_at (r : Fin 400) (j : Fin 128) : k0_pay10 (F := Ideal) a S b (ix2 r j) = Ideal.rsqrt (var (first400 a S b r) + Cert.Layer.eps) := by
  pointwise [k0_pay10, pay7_at, pay8_at]
  rfl

/-- The first layer's entry: the layer norm of the block's row, cut off below zero. -/
theorem hidOut_at (r : Fin 400) (j : Fin 128) :
    hidOut (F := Ideal) a S b g e (ix2 r j) = max (normed (first400 a S b r) (fun j => g (ix2 0 j)) (fun j => e (ix2 0 j)) j) 0 := by
  pointwise [hidOut, k0_pay1, k0_pay5, k0_pay6, pay9_at, pay10_at]
  rfl

/-- The first layer's entry, as the next product takes it. -/
theorem pay1_at (r : Fin 400) (j : Fin 128) : k0_pay1 (F := Ideal) (k0_pay5 g) (k0_pay6 e) (k0_pay9 a S b) (k0_pay10 a S b) (ix2 r j)
    = max (normed (first400 a S b r) (fun j => g (ix2 0 j)) (fun j => e (ix2 0 j)) j) 0 := hidOut_at a S b g e r j

/-- The next support's row, in its two halves. -/
theorem supOut_at (r : Fin 400) (j : Fin 256) :
    supOut (F := Ideal) a S b g e w (ix2 r j) = split (fun j => ∑ l : Fin 128, hidOut (F := Ideal) a S b g e (ix2 r l) * w (ix2 l j)) j := by
  unfold hidOut
  pointwise [supOut, k0_pay2]
  rfl

end First

section Mid
variable (b g e : Vec Ideal S1x1x128 .f32) (a : Vec Ideal S1000x10000 .fp8e4m3) (s : Vec Ideal S10000x256 .fp8e4m3) (x : Vec Ideal S1000x128 .f32)
  (w : Vec Ideal S1x128x128 .f32)

/-- A hidden layer's entry before the support's halves are put together. -/
abbrev mid1000 (r : Fin 1000) (j : Fin 128) : EReal :=
  ((∑ k : Fin 10000, a (ix2 r k) * s (ix2 k ⟨j.val, by omega⟩)) + (∑ k : Fin 10000, a (ix2 r k) * s (ix2 k ⟨128 + j.val, by omega⟩)) + b (ix3 0 0 j)) * invBn

/-- A hidden layer's entry: the layer norm of the block's row, cut off below zero, and the residual. -/
abbrev hid1 (r : Fin 1000) (j : Fin 128) : EReal :=
  max (normed (mid1000 b a s r) (fun j => g (ix3 0 0 j)) (fun j => e (ix3 0 0 j)) j) 0 + cHid * x (ix2 r j)

/-- The hidden rows that the first pass takes on. -/
theorem pay8'_at (r : Fin 1000) (j : Fin 128) :
    k1_pay8 (F := Ideal) (k1_pay1 b) (k1_pay2 g) (k1_pay3 e) a s x (ix2 r j) = hid1 b g e a s x r j := by
  pointwise [k1_pay8, k1_pay1, k1_pay2, k1_pay3, named_inv]
  rfl

/-- The hidden rows that the second pass takes on. -/
theorem pay10'_at (r : Fin 1000) (j : Fin 128) :
    k1_pay10 (F := Ideal) (k1_pay1 b) (k1_pay2 g) (k1_pay3 e) a s x (ix2 r j) = hid1 b g e a s x r j := by
  pointwise [k1_pay10, k1_pay1, k1_pay2, k1_pay3, named_inv]
  rfl

/-- A middle layer's hidden rows. -/
theorem midHid_at (r : Fin 1000) (j : Fin 128) : midHid (F := Ideal) b g e a s x (ix2 r j) = hid1 b g e a s x r j := by
  pointwise [midHid, k1_pay4, pay8'_at]

/-- The next support's row, in its two halves, as the second call's first layer leaves it. -/
theorem midSup_at (r : Fin 1000) (j : Fin 256) :
    midSup (F := Ideal) b g e w a s x (ix2 r j) = split (fun j => ∑ l : Fin 128, hid1 b g e a s x r l * w (ix3 0 l j)) j := by
  pointwise [midSup, k1_pay5, pay8'_at]
  rfl

/-- The same of its second layer. -/
theorem midSup2_at (r : Fin 1000) (j : Fin 256) :
    midSup2 (F := Ideal) b g e w a s x (ix2 r j) = split (fun j => ∑ l : Fin 128, hid1 b g e a s x r l * w (ix3 0 l j)) j := by
  pointwise [midSup2, k1_pay6, k1_pay9, pay10'_at]
  rfl

/-- The last layer's entry: the layer norm of the block's row, and the input. -/
theorem last_at (r : Fin 1000) (j : Fin 128) :
    k1_pay7 (F := Ideal) b g e a s x (ix2 r j)
      = normed (mid1000 b a s r) (fun j => g (ix3 0 0 j)) (fun j => e (ix3 0 0 j)) j + cIn * x (ix2 r j) := by
  pointwise [k1_pay7, k1_pay1, k1_pay2, k1_pay3, named_inv]
  rfl

end Mid

end Cert.KernelIdeal.Net

end
-- ==== Proof.Arrays0I.lean ====
/- What the first call leaves in its three result arrays, over the extended reals. -/
module

public import proofs.«01_k».proof.Proof.CellsI
public import proofs.«01_k».proof.Proof.Region0I

@[expose] public section

set_option maxRecDepth 16384

noncomputable section

namespace Cert.KernelIdeal.Net

open Idealize.ShloMosaic Idealize.ShloMosaic.TcCoe Cert.KernelIdeal.Gen
open Cert.Layer (mean var core normed conv split invBn cHid cIn dot layer first hidden last mat vec)

variable (V : Valuation τ sig (Elt Ideal)) (c : Dev nD)

/-- A one-row array's row. -/
abbrev line {n : ℕ} (v : (⟨2, ![1, n]⟩ : Shape).Idx → EReal) (j : Fin n) : EReal := v (ix2 0 j)

/-- The first layer's rows, of the arrays the first call finds. -/
def lay0 : Fin 10000 → Fin 128 → EReal :=
  first (mat (V main_arg1 : Vec Ideal S10000x10000 .f32)) (mat (V main_arg0 : Vec Ideal S10000x128 .f32)) (mat (V main_arg2 : Vec Ideal S128x128 .f32))
    (line (V main_v0 : Vec Ideal S1x128 .f32)) (line (V main_v1 : Vec Ideal S1x128 .f32)) (line (V main_v2 : Vec Ideal S1x128 .f32))

/-- Where the window is at each point: the block of the same number. -/
theorem index0_0 : ∀ t : Fin cfg0.N, win0_0.index t = ![t.val, 0] := (by decide +kernel : ∀ t : Fin grid0.N, win0_0.index t = ![t.val, 0])
/-- Where the window is at each point: the block of the same number. -/
theorem index0_7 : ∀ t : Fin cfg0.N, win0_7.index t = ![t.val, 0] := (by decide +kernel : ∀ t : Fin grid0.N, win0_7.index t = ![t.val, 0])
/-- Where the window is at each point: the block of the same number. -/
theorem index0_8 : ∀ t : Fin cfg0.N, win0_8.index t = ![t.val, 0] := (by decide +kernel : ∀ t : Fin grid0.N, win0_8.index t = ![t.val, 0])
/-- Where the window is at each point: the block of the same number. -/
theorem index0_9 : ∀ t : Fin cfg0.N, win0_9.index t = ![t.val, 0] := (by decide +kernel : ∀ t : Fin grid0.N, win0_9.index t = ![t.val, 0])

/-- Row `r` of block `t`, in the whole array. -/
def at0 (t : Fin cfg0.N) (r : Fin 400) : Fin 10000 := ⟨t.val * 400 + r.val, by have : t.val < 25 := Nat.lt_of_lt_of_eq t.isLt N_0; omega⟩

/-- A point's block of the adjacency, entry by entry. -/
theorem iblk0_0_at (t : Fin cfg0.N) (r : Fin 400) (k : Fin 10000) :
    (iblk0 V c 0 t : Vec Ideal S400x10000 .f32) (ix2 r k) = mat (V main_arg1 : Vec Ideal S10000x10000 .f32) (at0 t r) k := by
  blk_simp [iblk0]
  exact congrArg (V main_arg1) (by blk_ext [index0_0, at0])

/-- The support the first call's scratch holds. -/
theorem sup0_at : (fun k j => (sup0 V : Vec Ideal S10000x128 .bf16) (ix2 k j))
    = dot (mat (V main_arg0 : Vec Ideal S10000x128 .f32)) (mat (V main_arg2 : Vec Ideal S128x128 .f32)) := by
  funext k j
  exact sup_at _ _ k j

/-- A point's rows are the first layer's. -/
theorem out0_8_at (t : Fin cfg0.N) (r : Fin 400) (j : Fin 128) : out0_8 V c t (ix2 r j) = lay0 V (at0 t r) j := by
  unfold out0_8
  rw [hidOut_at]
  unfold first400
  rw [sup0_at, iblk0_3, iblk0_4, iblk0_5, funext fun k => iblk0_0_at V c t r k]
  rfl

/-- A point's rows of the split support. -/
theorem out0_9_at (t : Fin cfg0.N) (r : Fin 400) (j : Fin 256) :
    out0_9 V c t (ix2 r j) = split (dot (lay0 V) (mat (V main_arg4 : Vec Ideal S128x128 .f32)) (at0 t r)) j := by
  unfold out0_9
  rw [supOut_at, iblk0_6]
  refine congrArg (fun f => split f j) (funext fun j => Finset.sum_congr rfl fun l _ => ?_)
  exact congrArg (· * _) (out0_8_at V c t r l)

/-- The stored adjacency is the adjacency. -/
theorem arr0_7 : (dat0 V c).arrAt 7 cfg0.N = fun y => (V main_arg1 : Vec Ideal S10000x10000 .f32) y := by
  refine (dat0 V c).arrAt_eq_of_covers 7 _ (by decide +kernel) fun t hf y => ?_
  blk_simp
  rw [after0_7]
  unfold out0_7
  rw [adjOut_eq]
  blk_simp [iblk0]
  exact congrArg (V main_arg1) (by blk_ext [index0_0, index0_7])

/-- The hidden rows are the first layer's. -/
theorem arr0_8 : (dat0 V c).arrAt 8 cfg0.N = fun y => lay0 V (y 0) (y 1) := by
  refine (dat0 V c).arrAt_eq_of_covers 8 _ (by decide +kernel) fun t hf y => ?_
  blk_simp
  rw [after0_8]
  exact (congrArg (out0_8 V c t) (eq_ix2 y)).trans ((out0_8_at V c t (y 0) (y 1)).trans
    (congrArg₂ (lay0 V) (Fin.ext (by blk_simp [index0_8, at0])) (Fin.ext (by blk_simp [index0_8]))))

/-- The next support, in two halves. -/
theorem arr0_9 : (dat0 V c).arrAt 9 cfg0.N = fun y => split (dot (lay0 V) (mat (V main_arg4 : Vec Ideal S128x128 .f32)) (y 0)) (y 1) := by
  refine (dat0 V c).arrAt_eq_of_covers 9 _ (by decide +kernel) fun t hf y => ?_
  blk_simp
  rw [after0_9]
  exact (congrArg (out0_9 V c t) (eq_ix2 y)).trans ((out0_9_at V c t (y 0) (y 1)).trans
    (congrArg₂ (fun a b => split (dot (lay0 V) (mat (V main_arg4 : Vec Ideal S128x128 .f32)) a) b)
      (Fin.ext (by blk_simp [index0_9, at0])) (Fin.ext (by blk_simp [index0_9]))))

end Cert.KernelIdeal.Net

end
-- ==== Proof.Arrays1I.lean ====
/- What the second call leaves in its result array, over the extended reals. -/
module

public import proofs.«01_k».proof.Proof.CellsI
public import proofs.«01_k».proof.Proof.Region1I

@[expose] public section

set_option maxRecDepth 16384

noncomputable section

namespace Cert.KernelIdeal.Net

open Idealize.ShloMosaic Idealize.ShloMosaic.TcCoe Cert.KernelIdeal.Gen
open Cert.Layer (mean var core normed conv conv2 split invBn cHid cIn dot layer first hidden last mat vec)

variable (V : Valuation τ sig (Elt Ideal)) (c : Dev nD)

/-! ### The arrays the second call finds -/

/-- The stored adjacency. -/
abbrev adj1 : Fin 10000 → Fin 10000 → EReal := mat (V main_v3_0 : Vec Ideal S10000x10000 .fp8e4m3)
/-- The first layer's rows. -/
abbrev hid0 : Fin 10000 → Fin 128 → EReal := mat (V main_v3_1 : Vec Ideal S10000x128 .f32)
/-- The input. -/
abbrev inp : Fin 10000 → Fin 128 → EReal := mat (V main_arg0 : Vec Ideal S10000x128 .f32)
/-- Row `l` of three stacked vectors. -/
abbrev lineOf (v : Vec Ideal S3x1x128 .f32) (l : Fin 3) (j : Fin 128) : EReal := v (ix3 l 0 j)
/-- Matrix `l` of two stacked ones. -/
abbrev matOf (v : Vec Ideal S2x128x128 .f32) (l : Fin 2) (k j : Fin 128) : EReal := v (ix3 l k j)
/-- A layer's bias. -/
abbrev bs (l : Fin 3) : Fin 128 → EReal := lineOf (V main_v8) l
/-- A layer's scale. -/
abbrev gs (l : Fin 3) : Fin 128 → EReal := lineOf (V main_v13) l
/-- A layer's offset. -/
abbrev es (l : Fin 3) : Fin 128 → EReal := lineOf (V main_v18) l
/-- A layer's weights. -/
abbrev ws (l : Fin 2) : Fin 128 → Fin 128 → EReal := matOf (V main_v21) l

/-! ### The blocks -/

/-- Where the window is at each point: its pass and its number in the pass decide. -/
theorem index1_0 : ∀ t : Fin cfg1.N, win1_0.index t = ![t.val % 10, 0] := (by decide +kernel : ∀ t : Fin grid1.N, win1_0.index t = ![t.val % 10, 0])
/-- Where the window is at each point. -/
theorem index1_1 : ∀ t : Fin cfg1.N, win1_1.index t = ![0, 0] := (by decide +kernel : ∀ t : Fin grid1.N, win1_1.index t = ![0, 0])
/-- Where the window is at each point. -/
theorem index1_2 : ∀ t : Fin cfg1.N, win1_2.index t = ![if t.val < 10 then t.val else 0, 0] := (by decide +kernel : ∀ t : Fin grid1.N, win1_2.index t = ![if t.val < 10 then t.val else 0, 0])
/-- Where the window is at each point. -/
theorem index1_3 : ∀ t : Fin cfg1.N, win1_3.index t = ![t.val - 20, 0] := (by decide +kernel : ∀ t : Fin grid1.N, win1_3.index t = ![t.val - 20, 0])
/-- Where the window is at each point. -/
theorem index1_4 : ∀ t : Fin cfg1.N, win1_4.index t = ![t.val / 10, 0, 0] := (by decide +kernel : ∀ t : Fin grid1.N, win1_4.index t = ![t.val / 10, 0, 0])
/-- Where the window is at each point. -/
theorem index1_5 : ∀ t : Fin cfg1.N, win1_5.index t = ![t.val / 10, 0, 0] := (by decide +kernel : ∀ t : Fin grid1.N, win1_5.index t = ![t.val / 10, 0, 0])
/-- Where the window is at each point. -/
theorem index1_6 : ∀ t : Fin cfg1.N, win1_6.index t = ![t.val / 10, 0, 0] := (by decide +kernel : ∀ t : Fin grid1.N, win1_6.index t = ![t.val / 10, 0, 0])
/-- Where the window is at each point. -/
theorem index1_7 : ∀ t : Fin cfg1.N, win1_7.index t = ![if t.val < 10 then 0 else 1, 0, 0] := (by decide +kernel : ∀ t : Fin grid1.N, win1_7.index t = ![if t.val < 10 then 0 else 1, 0, 0])
/-- Where the window is at each point. -/
theorem index1_8 : ∀ t : Fin cfg1.N, win1_8.index t = ![t.val - 20, 0] := (by decide +kernel : ∀ t : Fin grid1.N, win1_8.index t = ![t.val - 20, 0])

/-- Row `r` of block `i`, in the whole array. -/
def at1 (i : Fin 10) (r : Fin 1000) : Fin 10000 := ⟨i.val * 1000 + r.val, by omega⟩

/-- The number of a point. -/
theorem pt_val (l : Fin 3) (i : Fin 10) : (pt l i).val = 10 * l.val + i.val := rfl

/-- A point's block of the adjacency. -/
theorem iblk1_0_at (l : Fin 3) (i : Fin 10) (r : Fin 1000) (k : Fin 10000) :
    (iblk1 V c 0 (pt l i) : Vec Ideal S1000x10000 .fp8e4m3) (ix2 r k) = adj1 V (at1 i r) k := by
  blk_simp [iblk1]
  exact congrArg (V main_v3_0) (by blk_ext [index1_0, at1, pt_val])

/-- The support of the first call, whole at each point. -/
theorem iblk1_1_eq (t : Fin cfg1.N) : iblk1 V c 1 t = V main_v3_2 := by
  funext y
  blk_simp [iblk1]
  exact congrArg (V main_v3_2) (by blk_ext [index1_1])

/-- A point's block of the first hidden rows. -/
theorem iblk1_2_at (i : Fin 10) (r : Fin 1000) (j : Fin 128) :
    (iblk1 V c 2 (pt 0 i) : Vec Ideal S1000x128 .f32) (ix2 r j) = hid0 V (at1 i r) j := by
  have e : (pt 0 i).val = i.val := by rw [pt_val]; simp
  have h : i.val < 10 := i.isLt
  blk_simp [iblk1]
  exact congrArg (V main_v3_1) (by blk_ext [index1_2, at1, e, if_pos h])

/-- A point's block of the input. -/
theorem iblk1_3_at (i : Fin 10) (r : Fin 1000) (j : Fin 128) :
    (iblk1 V c 3 (pt 2 i) : Vec Ideal S1000x128 .f32) (ix2 r j) = inp V (at1 i r) j := by
  blk_simp [iblk1]
  exact congrArg (V main_arg0) (by blk_ext [index1_3, at1, pt_val])

/-- The pass of a point. -/
theorem pt_div (l : Fin 3) (i : Fin 10) : (pt l i).val / 10 = l.val := by rw [pt_val]; omega

/-- A pass's bias. -/
theorem iblk1_4_at (l : Fin 3) (i : Fin 10) : (fun j => (iblk1 V c 4 (pt l i) : Vec Ideal S1x1x128 .f32) (ix3 0 0 j)) = bs V l := by
  funext j
  blk_simp [iblk1]
  exact congrArg (V main_v8) (by blk_ext [index1_4, pt_div])

/-- A pass's scale. -/
theorem iblk1_5_at (l : Fin 3) (i : Fin 10) : (fun j => (iblk1 V c 5 (pt l i) : Vec Ideal S1x1x128 .f32) (ix3 0 0 j)) = gs V l := by
  funext j
  blk_simp [iblk1]
  exact congrArg (V main_v13) (by blk_ext [index1_5, pt_div])

/-- A pass's offset. -/
theorem iblk1_6_at (l : Fin 3) (i : Fin 10) : (fun j => (iblk1 V c 6 (pt l i) : Vec Ideal S1x1x128 .f32) (ix3 0 0 j)) = es V l := by
  funext j
  blk_simp [iblk1]
  exact congrArg (V main_v18) (by blk_ext [index1_6, pt_div])

/-- The first pass's weights. -/
theorem iblk1_7_at0 (i : Fin 10) (k j : Fin 128) : (iblk1 V c 7 (pt 0 i) : Vec Ideal S1x128x128 .f32) (ix3 0 k j) = ws V 0 k j := by
  have h : (pt 0 i).val < 10 := by rw [pt_val]; simp
  blk_simp [iblk1]
  exact congrArg (V main_v21) (by blk_ext [index1_7, if_pos h])

/-- The second pass's weights. -/
theorem iblk1_7_at1 (i : Fin 10) (k j : Fin 128) : (iblk1 V c 7 (pt 1 i) : Vec Ideal S1x128x128 .f32) (ix3 0 k j) = ws V 1 k j := by
  have h : ¬ (pt 1 i).val < 10 := by rw [pt_val]; simp
  blk_simp [iblk1]
  exact congrArg (V main_v21) (by blk_ext [index1_7, if_neg h])

/-! ### The three passes -/

/-- An array put together from ten blocks, entry by entry. -/
theorem byRows_at1 {α : Type} {m : ℕ} {f : Fin 10 → (⟨2, ![1000, m]⟩ : Shape).Idx → α} {G : Fin 10000 → Fin m → α}
    (h : ∀ i r j, f i (ix2 r j) = G (at1 i r) j) (k : Fin 10000) (j : Fin m) : byRows f (ix2 k j) = G k j := by
  have e : k = at1 ⟨k.val / 1000, by omega⟩ ⟨k.val % 1000, Nat.mod_lt _ (by decide)⟩ := Fin.ext (by simp only [at1]; omega)
  exact (h ⟨k.val / 1000, by omega⟩ ⟨k.val % 1000, Nat.mod_lt _ (by decide)⟩ j).trans (by rw [← e])

/-- The layer norm of a block's row over a support in two halves is the one over the support. -/
theorem normed_mid (b : Vec Ideal S1x1x128 .f32) (a : Vec Ideal S1000x10000 .fp8e4m3) (s : Vec Ideal S10000x256 .fp8e4m3)
    (S : Fin 10000 → Fin 128 → EReal) (hs : ∀ k j, s (ix2 k j) = split (S k) j) (r : Fin 1000) (g e : Fin 128 → EReal) :
    normed (mid1000 b a s r) g e = normed (conv (fun k => a (ix2 r k)) S (fun j => b (ix3 0 0 j))) g e := by
  rw [← Cert.Layer.normed_conv2]
  refine congrArg (fun t => normed t g e) (funext fun j => ?_)
  unfold mid1000 conv2
  simp only [hs, Cert.Layer.split_left, Cert.Layer.split_right]

variable {w1 : Fin 128 → Fin 128 → EReal}
  (hs : ∀ k j, (V main_v3_2 : Vec Ideal S10000x256 .fp8e4m3) (ix2 k j) = split (dot (hid0 V) w1 k) j)

/-- The first hidden layer's rows. -/
def lay1 (w1 : Fin 128 → Fin 128 → EReal) : Fin 10000 → Fin 128 → EReal := hidden (adj1 V) (hid0 V) w1 (bs V 0) (gs V 0) (es V 0)
/-- The second hidden layer's rows. -/
def lay2 (w1 : Fin 128 → Fin 128 → EReal) : Fin 10000 → Fin 128 → EReal := hidden (adj1 V) (lay1 V w1) (ws V 0) (bs V 1) (gs V 1) (es V 1)
/-- The last layer's rows. -/
def lay3 (w1 : Fin 128 → Fin 128 → EReal) : Fin 10000 → Fin 128 → EReal := last (adj1 V) (lay2 V w1) (inp V) (ws V 1) (bs V 2) (gs V 2) (es V 2)

include hs

/-- The hidden rows of the first pass's block. -/
theorem hid1_pass0 (i : Fin 10) (r : Fin 1000) (j : Fin 128) :
    hid1 (iblk1 V c 4 (pt 0 i)) (iblk1 V c 5 (pt 0 i)) (iblk1 V c 6 (pt 0 i)) (iblk1 V c 0 (pt 0 i)) (iblk1 V c 1 (pt 0 i)) (iblk1 V c 2 (pt 0 i)) r j
      = lay1 V w1 (at1 i r) j := by
  unfold hid1
  rw [normed_mid _ _ _ (dot (hid0 V) w1) (fun k j => (congrFun (iblk1_1_eq V c (pt 0 i)) _).trans (hs k j)), iblk1_4_at, iblk1_5_at, iblk1_6_at,
    iblk1_2_at, funext fun k => iblk1_0_at V c 0 i r k]
  rfl

/-- The hidden rows that the first pass keeps. -/
theorem hidB_at (i : Fin 10) (r : Fin 1000) (j : Fin 128) : hidB V c i (ix2 r j) = lay1 V w1 (at1 i r) j :=
  (midHid_at ..).trans (hid1_pass0 V c hs i r j)

/-- The split support that the first pass keeps, block by block. -/
theorem supB_at (i : Fin 10) (r : Fin 1000) (j : Fin 256) : supB V c i (ix2 r j) = split (dot (lay1 V w1) (ws V 0) (at1 i r)) j := by
  unfold supB
  rw [midSup_at]
  refine congrArg (fun f => split f j) (funext fun j => Finset.sum_congr rfl fun l _ => ?_)
  rw [hid1_pass0 V c hs, iblk1_7_at0]

/-- The split support that the first pass leaves, all rows. -/
theorem supAll_at (k : Fin 10000) (j : Fin 256) : supAll V c (ix2 k j) = split (dot (lay1 V w1) (ws V 0) k) j :=
  byRows_at1 (G := fun k j => split (dot (lay1 V w1) (ws V 0) k) j) (supB_at V c hs) k j

/-- The hidden rows of the second pass's block. -/
theorem hid1_pass1 (i : Fin 10) (r : Fin 1000) (j : Fin 128) :
    hid1 (iblk1 V c 4 (pt 1 i)) (iblk1 V c 5 (pt 1 i)) (iblk1 V c 6 (pt 1 i)) (iblk1 V c 0 (pt 1 i)) (supAll V c) (hidB V c i) r j
      = lay2 V w1 (at1 i r) j := by
  unfold hid1
  rw [normed_mid _ _ _ (dot (lay1 V w1) (ws V 0)) (supAll_at V c hs), iblk1_4_at, iblk1_5_at, iblk1_6_at, hidB_at V c hs,
    funext fun k => iblk1_0_at V c 1 i r k]
  rfl

/-- The split support that the second pass keeps, block by block. -/
theorem sup2B_at (i : Fin 10) (r : Fin 1000) (j : Fin 256) : sup2B V c i (ix2 r j) = split (dot (lay2 V w1) (ws V 1) (at1 i r)) j := by
  unfold sup2B
  rw [midSup2_at]
  refine congrArg (fun f => split f j) (funext fun j => Finset.sum_congr rfl fun l _ => ?_)
  rw [hid1_pass1 V c hs, iblk1_7_at1]

/-- The split support that the second pass leaves, all rows. -/
theorem sup2All_at (k : Fin 10000) (j : Fin 256) : sup2All V c (ix2 k j) = split (dot (lay2 V w1) (ws V 1) k) j :=
  byRows_at1 (G := fun k j => split (dot (lay2 V w1) (ws V 1) k) j) (sup2B_at V c hs) k j

/-- The third pass's block of the result. -/
theorem outB_at (i : Fin 10) (r : Fin 1000) (j : Fin 128) : outB V c (pt 2 i) (ix2 r j) = lay3 V w1 (at1 i r) j := by
  unfold outB
  rw [last_at, normed_mid _ _ _ (dot (lay2 V w1) (ws V 1)) (sup2All_at V c hs), iblk1_4_at, iblk1_5_at, iblk1_6_at, iblk1_3_at,
    funext fun k => iblk1_0_at V c 2 i r k]
  rfl

/-- The result array is the last layer. -/
theorem arr1_8 : (dat1 V c).arrAt 8 cfg1.N = fun y => lay3 V w1 (y 0) (y 1) := by
  refine (dat1 V c).arrAt_eq_of_covers 8 _ (by decide +kernel) fun t hf y => ?_
  have ht : 20 ≤ t.val := of_decide_eq_true ((hflush t).symm.trans hf)
  have ht' : t.val < 30 := Nat.lt_of_lt_of_eq t.isLt N_1
  have e : t = pt 2 ⟨t.val - 20, by omega⟩ := Fin.ext (by rw [pt_val]; show t.val = 10 * 2 + (t.val - 20); omega)
  blk_simp
  rw [after1_8]
  exact (congrArg (outB V c t) (eq_ix2 y)).trans ((congrFun (congrArg (outB V c) e) _).trans ((outB_at V c hs ⟨t.val - 20, by omega⟩ (y 0) (y 1)).trans
    (congrArg₂ (lay3 V w1) (Fin.ext (by blk_simp [index1_8, at1])) (Fin.ext (by blk_simp [index1_8])))))

end Cert.KernelIdeal.Net

end
-- ==== Proof.ValueI.lean ====
/- The kernel's result over the extended reals, as a function of its arguments. -/
module

public import proofs.«01_k».proof.Proof.Arrays0I
public import proofs.«01_k».proof.Proof.Arrays1I
public import proofs.«01_k».proof.Proof.RunI

@[expose] public section

set_option maxRecDepth 16384

noncomputable section

namespace Cert.KernelIdeal.Net

open Idealize.ShloMosaic Idealize.ShloMosaic.TcCoe Idealize.ShloMosaic.StableHlo Cert.KernelIdeal.Gen
open Cert.Layer (mean var core normed conv conv2 split invBn cHid cIn dot layer first hidden last mat vec)

/-! ### What the host operations make -/

/-- A vector as a one-row array. -/
def asRow (b : Vec Ideal S128 .f32) : Vec Ideal S1x128 .f32 := shapeCast S1x128 b shapeCasts_S128_S1x128
/-- Three vectors stacked. -/
def stack3 (a b d : Vec Ideal S128 .f32) : Vec Ideal S3x1x128 .f32 :=
  shapeCast S3x1x128 (concatenate S3x128 0 [⟨S1x128, broadcastInDim S1x128 ![1] bcast_S128_S1x128_1 a⟩, ⟨S1x128, broadcastInDim S1x128 ![1] bcast_S128_S1x128_1 b⟩,
    ⟨S1x128, broadcastInDim S1x128 ![1] bcast_S128_S1x128_1 d⟩] concatenates_S1x128_S1x128_S1x128_S3x128_d0) shapeCasts_S3x128_S3x1x128
/-- Two matrices stacked. -/
def stack2 (a b : Vec Ideal S128x128 .f32) : Vec Ideal S2x128x128 .f32 :=
  concatenate S2x128x128 0 [⟨S1x128x128, broadcastInDim S1x128x128 ![1, 2] bcast_S128x128_S1x128x128_1_2 a⟩,
    ⟨S1x128x128, broadcastInDim S1x128x128 ![1, 2] bcast_S128x128_S1x128x128_1_2 b⟩] concatenates_S1x128x128_S1x128x128_S2x128x128_d0

/-- The one row is the vector. -/
theorem asRow_at (b : Vec Ideal S128 .f32) : line (asRow b) = vec b := by
  funext j
  unfold line
  pointwise [asRow]

/-- The first of three stacked vectors. -/
theorem stack3_0 (a b d : Vec Ideal S128 .f32) : lineOf (stack3 a b d) 0 = vec a := by
  funext j
  unfold lineOf
  pointwise [stack3]
/-- The second of three. -/
theorem stack3_1 (a b d : Vec Ideal S128 .f32) : lineOf (stack3 a b d) 1 = vec b := by
  funext j
  unfold lineOf
  pointwise [stack3]
/-- The third of three. -/
theorem stack3_2 (a b d : Vec Ideal S128 .f32) : lineOf (stack3 a b d) 2 = vec d := by
  funext j
  unfold lineOf
  pointwise [stack3]
/-- The first of two stacked matrices. -/
theorem stack2_0 (a b : Vec Ideal S128x128 .f32) : matOf (stack2 a b) 0 = mat a := by
  funext k j
  unfold matOf
  pointwise [stack2]
/-- The second of two. -/
theorem stack2_1 (a b : Vec Ideal S128x128 .f32) : matOf (stack2 a b) 1 = mat b := by
  funext k j
  unfold matOf
  pointwise [stack2]

section Host
variable (V : Valuation τ sig (Elt Ideal))

/-- The first bias as a row. -/
theorem host0_v0 : after hostOps0 V main_v0 = asRow (V main_arg3) := by after_results_simp; rfl
/-- The first scale as a row. -/
theorem host0_v1 : after hostOps0 V main_v1 = asRow (V main_arg10) := by after_results_simp; rfl
/-- The first offset as a row. -/
theorem host0_v2 : after hostOps0 V main_v2 = asRow (V main_arg11) := by after_results_simp; rfl
/-- The later biases, stacked. -/
theorem host1_v8 : after hostOps1 V main_v8 = stack3 (V main_arg5) (V main_arg7) (V main_arg9) := by after_results_simp; rfl
/-- The later scales, stacked. -/
theorem host1_v13 : after hostOps1 V main_v13 = stack3 (V main_arg12) (V main_arg14) (V main_arg16) := by after_results_simp; rfl
/-- The later offsets, stacked. -/
theorem host1_v18 : after hostOps1 V main_v18 = stack3 (V main_arg13) (V main_arg15) (V main_arg17) := by after_results_simp; rfl
/-- The last two weights, stacked. -/
theorem host1_v21 : after hostOps1 V main_v21 = stack2 (V main_arg6) (V main_arg8) := by after_results_simp; rfl

end Host

/-! ### The result -/

variable (m : (ℓ : Loc nD τ sig) → Buf (Elt Ideal) ℓ) (c : Dev nD)

/-- An argument as the second call finds it. -/
theorem arg_V2 (r : Ref sig .tc) (h0 : r ∉ hostOps0_W) (h1 : r ∉ ([main_v3_0, main_v3_1, main_v3_2] : List (Ref sig .tc))) :
    V2 m (left0 m) c r = m ((c : Thread nD τ).loc r) :=
  (V2_of m (left0 m) c r h1).trans (V1_of m c r h0)

/-- An argument as the second call is launched with it. -/
theorem arg_V3 (r : Ref sig .tc) (h0 : r ∉ hostOps0_W) (h1 : r ∉ ([main_v3_0, main_v3_1, main_v3_2] : List (Ref sig .tc))) (h2 : r ∉ hostOps1_W) :
    V3 m (left0 m) c r = m ((c : Thread nD τ).loc r) :=
  (V3_of m (left0 m) c r h2).trans (arg_V2 m c r h0 h1)

/-- The second call's adjacency is the first call's copy. -/
theorem V3_v3_0 : V3 m (left0 m) c main_v3_0 = (dat0 (V1 m c) c).arrAt 7 cfg0.N :=
  (V3_of m (left0 m) c main_v3_0 (by decide)).trans <|
    (Function.update_of_ne (devRef_ne_of_ne (by decide : main_v3_0 ≠ main_v3_2)) _ _).trans <|
    (Function.update_of_ne (devRef_ne_of_ne (by decide : main_v3_0 ≠ main_v3_1)) _ _).trans <|
    (Function.update_self _ _ _).trans (Pipeline.afterRegion_arr (dat0 (V1 m c) c) (V1 m c) winFacts0.arr_inj 7)

/-- The second call's hidden rows are the first call's. -/
theorem V3_v3_1 : V3 m (left0 m) c main_v3_1 = (dat0 (V1 m c) c).arrAt 8 cfg0.N :=
  (V3_of m (left0 m) c main_v3_1 (by decide)).trans <|
    (Function.update_of_ne (devRef_ne_of_ne (by decide : main_v3_1 ≠ main_v3_2)) _ _).trans <|
    (Function.update_self _ _ _).trans (Pipeline.afterRegion_arr (dat0 (V1 m c) c) (V1 m c) winFacts0.arr_inj 8)

/-- The second call's split support is the first call's. -/
theorem V3_v3_2 : V3 m (left0 m) c main_v3_2 = (dat0 (V1 m c) c).arrAt 9 cfg0.N :=
  (V3_of m (left0 m) c main_v3_2 (by decide)).trans <|
    (Function.update_self _ _ _).trans (Pipeline.afterRegion_arr (dat0 (V1 m c) c) (V1 m c) winFacts0.arr_inj 9)

/-- The argument `r` of the core. -/
abbrev arg (r : Ref sig .tc) : Buf (Elt Ideal) ((c : Thread nD τ).loc r) := m ((c : Thread nD τ).loc r)

/-- The first layer, of the arguments. -/
def net0 : Fin 10000 → Fin 128 → EReal :=
  first (mat (arg m c main_arg1)) (mat (arg m c main_arg0)) (mat (arg m c main_arg2)) (vec (arg m c main_arg3)) (vec (arg m c main_arg10)) (vec (arg m c main_arg11))

/-- The first call's layer is that of the arguments. -/
theorem lay0_eq : lay0 (V1 m c) = net0 m c := by
  unfold lay0 net0
  rw [show V1 m c main_arg1 = arg m c main_arg1 from V1_of m c main_arg1 (by decide),
    show V1 m c main_arg0 = arg m c main_arg0 from V1_of m c main_arg0 (by decide),
    show V1 m c main_arg2 = arg m c main_arg2 from V1_of m c main_arg2 (by decide),
    show V1 m c main_v0 = asRow (arg m c main_arg3) from host0_v0 _,
    show V1 m c main_v1 = asRow (arg m c main_arg10) from host0_v1 _,
    show V1 m c main_v2 = asRow (arg m c main_arg11) from host0_v2 _, asRow_at, asRow_at, asRow_at]

/-- The second call's adjacency is the argument. -/
theorem adj1_eq : adj1 (V3 m (left0 m) c) = mat (arg m c main_arg1) := by
  funext i j
  show (V3 m (left0 m) c main_v3_0) (ix2 i j) = _
  rw [V3_v3_0, arr0_7]
  exact congrFun (V1_of m c main_arg1 (by decide)) (ix2 i j)

/-- The second call starts from the first layer. -/
theorem hid0_eq : hid0 (V3 m (left0 m) c) = net0 m c := by
  funext i j
  show (V3 m (left0 m) c main_v3_1) (ix2 i j) = _
  rw [V3_v3_1, arr0_8]
  exact congrFun (congrFun (lay0_eq m c) i) j

/-- The second call's split support is that of the first layer and the next weights. -/
theorem sup0_eq (k : Fin 10000) (j : Fin 256) :
    (V3 m (left0 m) c main_v3_2) (ix2 k j) = split (dot (hid0 (V3 m (left0 m) c)) (mat (arg m c main_arg4)) k) j := by
  rw [V3_v3_2, arr0_9, hid0_eq]
  show split (dot (lay0 (V1 m c)) (mat (V1 m c main_arg4)) k) j = _
  rw [lay0_eq, show V1 m c main_arg4 = arg m c main_arg4 from V1_of m c main_arg4 (by decide)]

/-- The second call's input is the argument. -/
theorem inp_eq : inp (V3 m (left0 m) c) = mat (arg m c main_arg0) :=
  congrArg mat (arg_V3 m c main_arg0 (by decide) (by decide) (by decide))

/-- The second call's biases are the arguments', stacked. -/
theorem v8_eq : V3 m (left0 m) c main_v8 = stack3 (arg m c main_arg5) (arg m c main_arg7) (arg m c main_arg9) := by
  rw [show V3 m (left0 m) c main_v8 = _ from host1_v8 (V2 m (left0 m) c), arg_V2 m c main_arg5 (by decide) (by decide),
    arg_V2 m c main_arg7 (by decide) (by decide), arg_V2 m c main_arg9 (by decide) (by decide)]

/-- Its scales are the arguments', stacked. -/
theorem v13_eq : V3 m (left0 m) c main_v13 = stack3 (arg m c main_arg12) (arg m c main_arg14) (arg m c main_arg16) := by
  rw [show V3 m (left0 m) c main_v13 = _ from host1_v13 (V2 m (left0 m) c), arg_V2 m c main_arg12 (by decide) (by decide),
    arg_V2 m c main_arg14 (by decide) (by decide), arg_V2 m c main_arg16 (by decide) (by decide)]

/-- Its offsets are the arguments', stacked. -/
theorem v18_eq : V3 m (left0 m) c main_v18 = stack3 (arg m c main_arg13) (arg m c main_arg15) (arg m c main_arg17) := by
  rw [show V3 m (left0 m) c main_v18 = _ from host1_v18 (V2 m (left0 m) c), arg_V2 m c main_arg13 (by decide) (by decide),
    arg_V2 m c main_arg15 (by decide) (by decide), arg_V2 m c main_arg17 (by decide) (by decide)]

/-- Its weights are the arguments', stacked. -/
theorem v21_eq : V3 m (left0 m) c main_v21 = stack2 (arg m c main_arg6) (arg m c main_arg8) := by
  rw [show V3 m (left0 m) c main_v21 = _ from host1_v21 (V2 m (left0 m) c), arg_V2 m c main_arg6 (by decide) (by decide),
    arg_V2 m c main_arg8 (by decide) (by decide)]

/-- The kernel's result is the four layers of its arguments. -/
theorem result_mat :
    mat (V4 m (left m) c main_v22) =
      last (mat (arg m c main_arg1))
        (hidden (mat (arg m c main_arg1))
          (hidden (mat (arg m c main_arg1)) (net0 m c)
            (mat (arg m c main_arg4)) (vec (arg m c main_arg5)) (vec (arg m c main_arg12)) (vec (arg m c main_arg13)))
          (mat (arg m c main_arg6)) (vec (arg m c main_arg7)) (vec (arg m c main_arg14)) (vec (arg m c main_arg15)))
        (mat (arg m c main_arg0))
        (mat (arg m c main_arg8)) (vec (arg m c main_arg9)) (vec (arg m c main_arg16)) (vec (arg m c main_arg17)) := by
  rw [result_at, arr1_8 (V3 m (left0 m) c) c (sup0_eq m c)]
  show lay3 (V3 m (left0 m) c) (mat (arg m c main_arg4)) = _
  unfold lay3 lay2 lay1 bs gs es ws
  rw [adj1_eq, hid0_eq, inp_eq, v8_eq, v13_eq, v18_eq, v21_eq]
  simp only [stack3_0, stack3_1, stack3_2, stack2_0, stack2_1]

end Cert.KernelIdeal.Net

end
-- ==== Proof.lean ====
module

public import Idealize.ShloMosaic.Adequacy
public import Idealize.ShloMosaic.Init
public import proofs.«01_k».proof.Defs
public import proofs.«01_k».proof.Proof.Gen.Kernel
public import proofs.«01_k».proof.Proof.Gen.Kernel.Launch
public import proofs.«01_k».proof.Proof.Gen.Kernel.Points
public import proofs.«01_k».proof.Proof.Gen.Kernel.Regions
public import proofs.«01_k».proof.Proof.Gen.Kernel.Skeleton
public import proofs.«01_k».proof.Proof.Gen.KernelIdeal
public import proofs.«01_k».proof.Proof.Gen.KernelIdeal.Launch
public import proofs.«01_k».proof.Proof.Gen.KernelIdeal.Points
public import proofs.«01_k».proof.Proof.Gen.KernelIdeal.Regions
public import proofs.«01_k».proof.Proof.Gen.KernelIdeal.Skeleton
public import proofs.«01_k».proof.Proof.Gen.ReferenceIdeal
public import proofs.«01_k».proof.Proof.RunI
public import proofs.«01_k».proof.Proof.RunK
public import proofs.«01_k».proof.Proof.RefRun
public import proofs.«01_k».proof.Proof.RefCells
public import proofs.«01_k».proof.Proof.ValueI

@[expose] public section

noncomputable section

namespace Cert.Proof

open Idealize.ShloMosaic Idealize.ShloMosaic.TcCoe Idealize.SL.Sem

/-- The frame of the reference: it has no semaphores, so their counters are zero at the end too. -/
theorem reference_frame : Cert.quiescent_ReferenceIdeal (hReferenceIdeal := Cert.ReferenceIdeal.Gen.facts) := fun m ρ _ =>
  (θ_run Cert.ReferenceIdeal.defs _ _).mono
    (fun r h => ⟨fun c => (h c).2, sem_eq_zero_of_no_sems (by decide) r.2⟩)
    (Cert.ReferenceIdeal.Plain.run m ρ)

/-- An array of two axes is known by its matrix. -/
theorem mat_inj {n w : ℕ} {a b : Vec Ideal ⟨2, ![n, w]⟩ .f32} (h : Cert.Layer.mat a = Cert.Layer.mat b) : a = b := by
  funext y
  rw [eq_ix2 y]
  exact congrFun (congrFun h (y 0)) (y 1)

/-- The reference and the kernel compute the same array from the same arguments, over the extended reals. -/
theorem equal_results : Cert.algebraic_KernelIdeal_ReferenceIdeal (hKernelIdeal := Cert.KernelIdeal.Gen.facts)
    (hReferenceIdeal := Cert.ReferenceIdeal.Gen.facts) := by
  intro m g m' g' _ same
  refine ⟨fun c => Cert.KernelIdeal.Gen.V4 m (Cert.KernelIdeal.Net.left m) c Cert.KernelIdeal.main_v22,
    (θ_run Cert.KernelIdeal.defs _ _).mono
      (fun r h c => ⟨Cert.KernelIdeal.Net.run_at m (h.1 c) Cert.KernelIdeal.main_v22 rfl, Cert.KernelIdeal.Net.args_kept m (h.1 c)⟩)
      (Cert.KernelIdeal.Net.run m g),
    (θ_run Cert.ReferenceIdeal.defs _ _).mono (fun r h c => ⟨(h c).1.trans ?_, (h c).2⟩)
      (Cert.ReferenceIdeal.Plain.run m' g')⟩
  obtain ⟨a0, a1, a2, a3, a4, a5, a6, a7, a8, a9, a10, a11, a12, a13, a14, a15, a16, a17⟩ := same c
  rw [a0, a1, a2, a3, a4, a5, a6, a7, a8, a9, a10, a11, a12, a13, a14, a15, a16, a17]
  exact mat_inj ((Cert.ReferenceIdeal.Plain.spec_mat _ _ _ _ _ _ _ _ _ _ _ _ _ _ _ _ _ _).trans (Cert.KernelIdeal.Net.result_mat m c).symm)

theorem claim : Cert.Claim := ⟨Cert.Kernel.Gen.facts, Cert.KernelIdeal.Gen.facts, Cert.ReferenceIdeal.Gen.facts,
  fun m ρ _ => Cert.Kernel.Net.frame m ρ, fun m ρ _ => Cert.KernelIdeal.Net.frame m ρ, reference_frame,
  IdealRules.named_const.statement _ _ _ _ _ rfl, equal_results⟩

end Cert.Proof

end
